-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_plus_infinity [hPre_no_plus_infinity : Cert.Pre_no_plus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_no_plus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_plus_infinity [hPre_no_plus_infinity : Cert.Pre_no_plus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_plus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_plus_infinity [hKernelIdeal : Cert.KernelIdeal.Facts] [hPre_no_plus_infinity : Cert.Pre_no_plus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_plus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_plus_infinity [hReferenceIdeal : Cert.ReferenceIdeal.Facts] [hPre_no_plus_infinity : Cert.Pre_no_plus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_plus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_no_plus_infinity [hKernelIdeal : Cert.KernelIdeal.Facts] [hReferenceIdeal : Cert.ReferenceIdeal.Facts] [hPre_no_plus_infinity : Cert.Pre_no_plus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_plus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_plus_infinity : Cert.Pre_no_plus_infinity.Facts),
    quiescent_Kernel (hKernel := hKernel)
    ∧ quiescent_KernelIdeal (hKernelIdeal := hKernelIdeal)
    ∧ quiescent_KernelIdeal_pre_no_plus_infinity (hKernelIdeal := hKernelIdeal) (hPre_no_plus_infinity := hPre_no_plus_infinity)
    ∧ quiescent_ReferenceIdeal (hReferenceIdeal := hReferenceIdeal)
    ∧ quiescent_ReferenceIdeal_pre_no_plus_infinity (hReferenceIdeal := hReferenceIdeal) (hPre_no_plus_infinity := hPre_no_plus_infinity)
    ∧ preserves_Kernel_KernelIdeal
    ∧ algebraic_KernelIdeal_ReferenceIdeal_pre_no_plus_infinity (hKernelIdeal := hKernelIdeal) (hReferenceIdeal := hReferenceIdeal) (hPre_no_plus_infinity := hPre_no_plus_infinity)
-- ==== Pre_no_plus_infinity.lean ====
abbrev S16384x1000 : Shape := ⟨2, ![16384, 1000]⟩
abbrev S16384 : Shape := ⟨1, ![16384]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel

variable [Facts]

def fn {F : FTy → Type} [FloatOps F] (main_arg0 : FVec F S16384x1000 .f32) (main_arg1 : IVec S16384 32) : IVec S_ 1 :=
  let main_cst : FVec F S_ .f32 := constant S_ .f32 0x7F800000#32
  let main_v0 : FVec F S16384x1000 .f32 := broadcastInDim S16384x1000 ![] bcast_S_S16384x1000 main_cst
  let main_v1 : IVec S16384x1000 1 := cmpf .olt main_arg0 main_v0
  let main_c : IVec S_ 1 := constantI S_ 1 1#1
  let main_v2 : IVec S_ 1 := (fun x v => Host.reduce IntOp.andi x v reducesTo_S16384x1000_S_d0_1 h_S_) main_v1 main_c
  main_v2
-- ==== Kernel.lean ====
abbrev S16384x1000 : Shape := ⟨2, ![16384, 1000]⟩
abbrev S16384 : Shape := ⟨1, ![16384]⟩
abbrev S64x1x256 : Shape := ⟨3, ![64, 1, 256]⟩
abbrev S1x1 : Shape := ⟨2, ![1, 1]⟩
abbrev S256x1000 : Shape := ⟨2, ![256, 1000]⟩
abbrev S1x1x256 : Shape := ⟨3, ![1, 1, 256]⟩
abbrev S2x1024 : Shape := ⟨2, ![2, 1024]⟩
abbrev S256 : Shape := ⟨1, ![256]⟩
abbrev S256x1 : Shape := ⟨2, ![256, 1]⟩
abbrev S256x1024 : Shape := ⟨2, ![256, 1024]⟩
abbrev S1x256 : Shape := ⟨2, ![1, 256]⟩
abbrev S2x256 : Shape := ⟨2, ![2, 256]⟩
abbrev S1x1024 : Shape := ⟨2, ![1, 1024]⟩
abbrev S1 : Shape := ⟨1, ![1]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S64x1x256, .i32⟩
  | .hbm, ⟨3, _⟩ => ⟨S1x1, .f32⟩
  | .hbm, ⟨4, _⟩ => ⟨S_, .f32⟩
  | .local _ .vmem, ⟨0, _⟩ => ⟨S256x1000, .f32⟩
  | .local _ .vmem, ⟨1, _⟩ => ⟨S256x1000, .f32⟩
  | .local _ .vmem, ⟨2, _⟩ => ⟨S1x1x256, .i32⟩
  | .local _ .vmem, ⟨3, _⟩ => ⟨S1x1x256, .i32⟩
  | .local _ .vmem, ⟨4, _⟩ => ⟨S1x1, .f32⟩
  | .local _ .vmem, ⟨5, _⟩ => ⟨S2x1024, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v32 : BitVec 1 := Scalar.cmpi .eq arg0 c63_i32
  let v33 : BitVec 32 := Scalar.extui v32
  let c0_i32_12 : BitVec 32 := 0#32
  let v34 : BitVec 1 := Scalar.cmpi .ne v33 c0_i32_12
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S1000 : Shape := ⟨1, ![1000]⟩

abbrev nBuf : Space → Nat
  | .hbm => 66
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x1000, .f32⟩
  | .hbm, ⟨9, _⟩ => ⟨S16384x1000, .f32⟩
  | .hbm, ⟨10, _⟩ => ⟨S16384x1000, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x1000, .f32⟩
  | .hbm, ⟨15, _⟩ => ⟨S16384x1000, .f32⟩
  | .hbm, ⟨16, _⟩ => ⟨S16384x1000, .i32⟩
  | .hbm, ⟨17, _⟩ => ⟨S_, .f32⟩
  | .hbm, ⟨18, _⟩ => ⟨S_, .i32⟩
  | .hbm, ⟨19, _⟩ => ⟨S16384, .f32⟩
  | .hbm, ⟨20, _⟩ => ⟨S16384, .i32⟩
  | .hbm, ⟨21, _⟩ => ⟨S_, .f32⟩
  | .hbm, ⟨22, _⟩ => ⟨S1000, .f32⟩
  | .hbm, ⟨23, _⟩ => ⟨S16384, .i1⟩
  | .hbm, ⟨24, _⟩ => ⟨S16384, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S1000, .f32⟩
  | .hbm, ⟨34, _⟩ => ⟨S_, .f32⟩
  | .hbm, ⟨35, _⟩ => ⟨S1000, .f32⟩
  | .hbm, ⟨36, _⟩ => ⟨S_, .f32⟩
  | .hbm, ⟨37, _⟩ => ⟨S16384, .f32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384x1, .i32⟩
  | .hbm, ⟨46, _⟩ => ⟨S1000, .f32⟩
  | .hbm, ⟨47, _⟩ => ⟨S_, .f32⟩
  | .hbm, ⟨48, _⟩ => ⟨S1000, .f32⟩
  | .hbm, ⟨49, _⟩ => ⟨S1000, .i1⟩
  | .hbm, ⟨50, _⟩ => ⟨S_, .f32⟩
  | .hbm, ⟨51, _⟩ => ⟨S_, .f32⟩
  | .hbm, ⟨52, _⟩ => ⟨S1000, .f32⟩
  | .hbm, ⟨53, _⟩ => ⟨S1000, .f32⟩
  | .hbm, ⟨54, _⟩ => ⟨S_, .f32⟩
  | .hbm, ⟨55, _⟩ => ⟨S1000, .f32⟩
  | .hbm, ⟨56, _⟩ => ⟨S1000, .i1⟩
  | .hbm, ⟨57, _⟩ => ⟨S1000, .f32⟩
  | .hbm, ⟨58, _⟩ => ⟨S_, .f32⟩
  | .hbm, ⟨59, _⟩ => ⟨S_, .f32⟩
  | .hbm, ⟨60, _⟩ => ⟨S1000, .f32⟩
  | .hbm, ⟨61, _⟩ => ⟨S1000, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_cst : Ref sig .tc := ⟨.hbm, 17, rfl⟩
abbrev main_call0_c : Ref sig .tc := ⟨.hbm, 18, rfl⟩
abbrev main_call0_v1_0 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_call1_v0 : Ref sig .tc := ⟨.hbm, 51, rfl⟩
abbrev main_call1_v1 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_11 : Ref sig .tc := ⟨.hbm, 58, rfl⟩
abbrev main_call2_v0 : Ref sig .tc := ⟨.hbm, 59, rfl⟩
abbrev main_call2_v1 : Ref sig .tc := ⟨.hbm, 60, rfl⟩
abbrev main_v37 : Ref sig .tc := ⟨.hbm, 61, rfl⟩
abbrev main_cst_12 : Ref sig .tc := ⟨.hbm, 62, rfl⟩
abbrev main_v38 : Ref sig .tc := ⟨.hbm, 63, rfl⟩
abbrev main_cst_13 : Ref sig .tc := ⟨.hbm, 64, rfl⟩
abbrev main_v39 : Ref sig .tc := ⟨.hbm, 65, rfl⟩

abbrev nD : Nat := 1
abbrev τ : Topo := Topo.v7x

variable {F : FTy → Type} [FloatOps F]
-- ==== Proof.KernelCases.lean ====
/-
  What the kernel body leaves behind at each kind of grid point, read back as plain values: the first point starts the
  two counters from zero, every later point adds its block to what the point before left, and the last point also
  stores the mean precision computed from the finished counters.
-/
module

public import proofs.«01_k».proof.Proof.Gen.KernelIdeal.Frame
public import Idealize.ShloMosaic.Lib.Pipeline.Value

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]

/-- The offsets of a two-axis access at the origin are zero. -/
theorem hz2 : (![0, 0] : Fin 2 → Nat) = fun _ => 0 := funext fun a => by fin_cases a <;> rfl
/-- The offsets of a three-axis access at the origin are zero. -/
theorem hz3 : (![0, 0, 0] : Fin 3 → Nat) = fun _ => 0 := funext fun a => by fin_cases a <;> rfl

/-- At a middle point the scratch ends at the block's update of what it held. -/
theorem sout_B (c : Dev nD) (i : grid0.Coords) (a1 : Memref sig .tc .vmem S256x1000 .f32) (h1 : a1.IsWhole)
    (a2 : Memref sig .tc .vmem S1x1x256 .i32) (h2 : a2.IsWhole) (a3 : Memref sig .tc .vmem S1x1 .f32) (h3 : a3.IsWhole)
    (a4 : Memref sig .tc .vmem S2x1024 .f32) (h4 : a4.IsWhole) (hc0 : ¬cond0_0 i) (hc1 : ¬cond0_1 i)
    (x0 : Vec F S256x1000 .f32) (x1 : Vec F S1x1x256 .i32) (xs : Vec F S2x1024 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  rw [View.canon_unit_zero hz2]
  simp only [View.readAt_eq_ld, h1.read_unread, h2.read_unread, h4.read_unread, View.ld_unit_zero (S := S256x1000) hz2,
    View.ld_unit_zero (S := S1x1x256) hz3, View.ld_unit_zero (S := S2x1024) hz2]

/-- At the first point the scratch ends at the block's update of the zero counters. -/
theorem sout_A (c : Dev nD) (i : grid0.Coords) (a1 : Memref sig .tc .vmem S256x1000 .f32) (h1 : a1.IsWhole)
    (a2 : Memref sig .tc .vmem S1x1x256 .i32) (h2 : a2.IsWhole) (a3 : Memref sig .tc .vmem S1x1 .f32) (h3 : a3.IsWhole)
    (a4 : Memref sig .tc .vmem S2x1024 .f32) (h4 : a4.IsWhole) (hc0 : cond0_0 i) (hc1 : ¬cond0_1 i)
    (x0 : Vec F S256x1000 .f32) (x1 : Vec F S1x1x256 .i32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S2x1024) hz2, View.readCov_unit_zero (S := S2x1024) _ hz2]
  simp only [View.readAt_eq_ld, h1.read_unread, h2.read_unread, View.ld_unit_zero (S := S256x1000) hz2,
    View.ld_unit_zero (S := S1x1x256) hz3]

/-- At the last point the scratch ends, as at a middle one, at the block's update of what it held. -/
theorem sout_C (c : Dev nD) (i : grid0.Coords) (a1 : Memref sig .tc .vmem S256x1000 .f32) (h1 : a1.IsWhole)
    (a2 : Memref sig .tc .vmem S1x1x256 .i32) (h2 : a2.IsWhole) (a3 : Memref sig .tc .vmem S1x1 .f32) (h3 : a3.IsWhole)
    (a4 : Memref sig .tc .vmem S2x1024 .f32) (h4 : a4.IsWhole) (hc0 : ¬cond0_0 i) (hc1 : cond0_1 i)
    (x0 : Vec F S256x1000 .f32) (x1 : Vec F S1x1x256 .i32) (xs : Vec F S2x1024 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz2]
  simp only [View.readAt_eq_ld, h1.read_unread, h2.read_unread, h4.read_unread, View.ld_unit_zero (S := S256x1000) hz2,
    View.ld_unit_zero (S := S1x1x256) hz3, View.ld_unit_zero (S := S2x1024) hz2]

/-- The two rows of the counters, as the kernel's last point loads them. -/
abbrev row0 (a : Vec F S2x1024 .f32) : Vec F S1x1024 .f32 := View.ld a (Rect.unit (s := S2x1024) ![0, 0] S1x1024.size inb_S2x1024_S1x1024_0_0)
abbrev row1 (a : Vec F S2x1024 .f32) : Vec F S1x1024 .f32 := View.ld a (Rect.unit (s := S2x1024) ![1, 0] S1x1024.size inb_S2x1024_S1x1024_1_0)

/-- At the last point the output ends at the mean precision of the finished counters. -/
theorem out_C (c : Dev nD) (i : grid0.Coords) (a1 : Memref sig .tc .vmem S256x1000 .f32) (h1 : a1.IsWhole)
    (a2 : Memref sig .tc .vmem S1x1x256 .i32) (h2 : a2.IsWhole) (a3 : Memref sig .tc .vmem S1x1 .f32) (h3 : a3.IsWhole)
    (a4 : Memref sig .tc .vmem S2x1024 .f32) (h4 : a4.IsWhole) (hc0 : ¬cond0_0 i) (hc1 : cond0_1 i)
    (x0 : Vec F S256x1000 .f32) (x1 : Vec F S1x1x256 .i32) (xs : Vec F S2x1024 .f32) :
    out0_C_2 c i a1 h1 a2 h2 a3 h3 a4 h4 hc0 hc1 x0 x1 xs = k0_pay3 (row0 (k0_pay2 x0 x1 xs)) (row1 (k0_pay2 x0 x1 xs)) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz2]
  simp only [View.readAt_eq_ld, h1.read_unread, h2.read_unread, h4.read_unread, View.ld_unit_zero (S := S256x1000) hz2,
    View.ld_unit_zero (S := S1x1x256) hz3, View.ld_unit_zero (S := S2x1024) hz2]
  rw [View.readCov_eq_canon', View.readCov_eq_canon', View.canon_unit_zero (S := S2x1024) hz2]
  rfl

end Cert.KernelIdeal.Value

end
-- ==== Proof.KernelRun.lean ====
/-
  The kernel's run, read as one value: the two counters after each block of rows (`acc`), the one number the last point
  stores (`cell`), and the run itself with the returned scalar at that number and both arguments unchanged (`run`).
-/
module

public import proofs.«01_k».proof.Proof.KernelCases
public import Idealize.ShloMosaic.Lib.Claim

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]
variable (m : (ℓ : Loc nD τ sig) → Buf (Elt F) ℓ) (ρ : Dev nD → PrngReg)

/-- The two counters after the blocks `0 … n`: from zero, each block's update in turn. -/
def acc (c : Dev nD) : (n : ℕ) → n < cfg0.N → Vec F S2x1024 .f32
  | 0, h => k0_pay2 (iblk m c 0 ⟨0, h⟩) (iblk m c 1 ⟨0, h⟩) (k0_pay1 (F := F))
  | n + 1, h => k0_pay2 (iblk m c 0 ⟨n + 1, h⟩) (iblk m c 1 ⟨n + 1, h⟩) (acc c n (Nat.lt_of_succ_lt h))

/-- The scratch after the first point. -/
theorem snd_zero (c : Dev nD) (h : 0 < cfg0.N) : (outsAt0 m c 0 h).2 = k0_pay2 (iblk m c 0 ⟨0, h⟩) (iblk m c 1 ⟨0, h⟩) (k0_pay1 (F := F)) := by
  rw [outsAt0_A m c ⟨0, h⟩ rfl (by show ¬ 0 % 64 = 63; decide)]
  dsimp only
  rw [sout_A]

/-- The scratch after a later point, from what the point before left. -/
theorem snd_succ (c : Dev nD) (n : ℕ) (h : n + 1 < cfg0.N) : (outsAt0 m c (n + 1) h).2
    = k0_pay2 (iblk m c 0 ⟨n + 1, h⟩) (iblk m c 1 ⟨n + 1, h⟩) (outsAt0 m c n (Nat.lt_of_succ_lt h)).2 := by
  have hN : n + 1 < 64 := lt_of_lt_of_eq h (show cfg0.N = 64 from N_0)
  have h0 : ¬(⟨n + 1, h⟩ : Fin cfg0.N).val % 64 = 0 := by dsimp only; omega
  by_cases h1 : (⟨n + 1, h⟩ : Fin cfg0.N).val % 64 = 63
  · rw [outsAt0_C m c ⟨n + 1, h⟩ h0 h1]
    dsimp only
    rw [sout_C]
    rfl
  · rw [outsAt0_B m c ⟨n + 1, h⟩ h0 h1]
    dsimp only
    rw [sout_B]
    rfl

/-- What the scratch holds after point `n` is the counters after the blocks `0 … n`. -/
theorem outsAt_snd (c : Dev nD) (n : ℕ) (h : n < cfg0.N) : (outsAt0 m c n h).2 = acc m c n h := by
  induction n with
  | zero => exact snd_zero m c h
  | succ n ih => rw [snd_succ, ih]; rfl

/-- The last point's number. -/
abbrev last : Fin cfg0.N := ⟨63, lt_of_lt_of_eq (by decide) (show cfg0.N = 64 from N_0).symm⟩

/-- The counters after all sixty-four blocks. -/
abbrev counters (c : Dev nD) : Vec F S2x1024 .f32 := acc m c 63 last.isLt

/-- The one number the last point stores: the mean precision of the finished counters. -/
abbrev cell (c : Dev nD) : Vec F S1x1 .f32 := k0_pay3 (row0 (counters m c)) (row1 (counters m c))

/-- What the output's buffer holds after the last point. -/
theorem outsAt_last (c : Dev nD) : (outsAt0 m c 63 last.isLt).1 = cell m c := by
  have e : k0_pay2 (iblk m c 0 last) (iblk m c 1 last) (outsAt0 m c (last.val - 1) (Nat.lt_of_le_of_lt (Nat.sub_le _ _) last.isLt)).2 = counters m c := by
    rw [outsAt_snd]; rfl
  rw [outsAt0_C m c last (by show ¬ 63 % 64 = 0; decide) (by show 63 % 64 = 63; decide)]
  dsimp only
  rw [out_C, e]

/-- The output array's one entry, as contents of the array. -/
abbrev result (c : Dev nD) : Buf (Elt F) ((c : Thread nD τ).loc main_v1) := cell m c

/-- The output's window reads the same block at every point: the whole one-entry array. -/
theorem index2 : ∀ t : Fin cfg0.N, win0_2.index t 0 = 0 ∧ win0_2.index t 1 = 0 := (by decide +kernel : ∀ t : Fin grid0.N, _)

/-- The one write-back, after the last point, writes the stored number. -/
theorem flushed_eq (c : Dev nD) (t : Fin cfg0.N) (hf : (cfg0.win 2).flush t = true) :
    (dats m 0 c).flushed 2 t = ((cfg0.win 2).blk t).view.read (Elt F) (result m c) := by
  have hN : t.val < 64 := lt_of_lt_of_eq t.isLt (show cfg0.N = 64 from N_0)
  have h3 : t.val = 63 := by have := (flush0_2 t).mp hf; omega
  obtain rfl : t = last := Fin.ext h3
  show (cfg0.win 2).cut (grid0.coords last) ((dats m 0 c).after 2 last) = _
  rw [after0_2, show (outsAt0 m c last.val last.isLt).1 = cell m c from outsAt_last m c]
  have hz' : (fun a => win0_2.index last a * main_v1.ty.shape.size a) = fun _ => 0 := funext fun a => by
    match a with
    | ⟨0, _⟩ => show win0_2.index last 0 * 1 = 0; rw [(index2 last).1]
    | ⟨1, _⟩ => show win0_2.index last 1 * 1 = 0; rw [(index2 last).2]
  exact (Memref.read_access_unit_zero (Elt F) main_v1 hz' (fun a => by rw [congrFun hz' a]; simp) (result m c)).symm

/-- So the output array ends at the stored number. -/
theorem final2 (c : Dev nD) : (dats m 0 c).arrAt 2 cfg0.N = result m c :=
  (dats m 0 c).arrAt_eq_of_cover 2 (result m c) (flushed_eq m c) fun i =>
    ⟨last, (flush0_2 last).mpr rfl, by
      show i ∈ ((View.whole main_v1).slice (win0_2.rect last)).set
      rw [View.set_slice_whole, Rect.mem_set_unit]
      intro a
      have h0 : (i 0 : Nat) < 1 := (i 0).isLt
      have h1 : (i 1 : Nat) < 1 := (i 1).isLt
      match a with
      | ⟨0, _⟩ => show win0_2.index last 0 * 1 ≤ (i 0 : Nat) ∧ (i 0 : Nat) < win0_2.index last 0 * 1 + 1
                  rw [(index2 last).1]; omega
      | ⟨1, _⟩ => show win0_2.index last 1 * 1 ≤ (i 1 : Nat) ∧ (i 1 : Nat) < win0_2.index last 1 * 1 + 1
                  rw [(index2 last).2]; omega⟩

/-- The scalar the program returns: the stored number, its two one-long axes dropped. -/
abbrev out (c : Dev nD) : Buf (Elt F) ((c : Thread nD τ).loc main_v2) := shapeCast S_ (cell m c) shapeCasts_S1x1_S_

/-- What the last host operation leaves in the returned scalar. -/
theorem tail_v2 (c : Dev nD) : Pipeline.afterTail₀ cfgs (dats m) 0 (V0 m) [hostOps1] c main_v2 = out m c := by
  have e := final2 m c
  unfold Pipeline.afterTail₀
  show StableHlo.after [StableHlo.reshape main_v1 main_v2 rfl shapeCasts_S1x1_S_] _ (Proc.devRef .tc main_v2) = _
  after_results_simp
  show shapeCast S_ (Pipeline.withArrays spec0 c (V0 m c) _ (Proc.devRef .tc (Pipeline.arrRef spec0 2))) _ = _
  rw [Pipeline.withArrays_arr _ launch0.win.arr_inj]
  show shapeCast S_ ((dats m 0 c).arrAt 2 cfg0.N) _ = _
  rw [e]

/-- The run, read: the returned scalar at the stored number, both arguments unchanged. -/
theorem run : θ_run defs (onTc (τ := τ) (main (F := F))) ⟨m, fun _ => 0, ρ⟩ fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v2 (Pipeline.mem_restRefs_of main_v2 (by decide) (by decide))).trans (tail_v2 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c))⟩)
    (run_main m ρ)

end Cert.KernelIdeal.Value

end
-- ==== Proof.ArgSpec.lean ====
/-
  The first index at which a row is largest, and that a softmax of a row below `+∞` is largest, for the first time, at
  the same index.
-/
module

public import Idealize.ShloMosaic.PureOps.Ideal

@[expose] public section

noncomputable section

open Idealize.ShloMosaic

namespace Cert.Precision

/-- `k` is the first index at which the row is largest. -/
def IsArg (x : Fin 1000 → EReal) (k : Fin 1000) : Prop := (∀ j, x j ≤ x k) ∧ ∀ j, x j = x k → k ≤ j

/-- Every row has a first largest index. -/
theorem exists_isArg (x : Fin 1000 → EReal) : ∃ k, IsArg x k := by
  obtain ⟨M, -, hM⟩ := Finset.exists_max_image Finset.univ x ⟨0, Finset.mem_univ _⟩
  have hne : (Finset.univ.filter fun j => x j = x M).Nonempty := ⟨M, by simp⟩
  have hk := Finset.min'_mem _ hne
  have hkM : x ((Finset.univ.filter fun j => x j = x M).min' hne) = x M := (Finset.mem_filter.1 hk).2
  refine ⟨(Finset.univ.filter fun j => x j = x M).min' hne, fun j => ?_, fun j hj => ?_⟩
  · rw [hkM]; exact hM j (Finset.mem_univ _)
  · exact Finset.min'_le _ j (by simpa using hj.trans hkM)

/-- The first index at which the row is largest. -/
def arg (x : Fin 1000 → EReal) : Fin 1000 := (exists_isArg x).choose

/-- A finite sum of reals, read among the extended reals. -/
theorem coe_total {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- What `arg` is. -/
theorem isArg_arg (x : Fin 1000 → EReal) : IsArg x (arg x) := (exists_isArg x).choose_spec

/-- The quotient a softmax takes at index `j`, the row shifted by its value at `k`. -/
def soft (x : Fin 1000 → EReal) (k j : Fin 1000) : EReal :=
  Ideal.div (Ideal.exp (x j - x k)) (∑ i, Ideal.exp (x i - x k))

/-- A row that is `-∞` at its largest has `-∞` quotients throughout. -/
theorem soft_bot {x : Fin 1000 → EReal} {k : Fin 1000} (hk : IsArg x k) (h : x k = ⊥) (j : Fin 1000) : soft x k j = ⊥ := by
  have hall : ∀ i, x i = ⊥ := fun i => le_bot_iff.1 (h ▸ hk.1 i)
  have hz : ∀ i, Ideal.exp (x i - x k) = 0 := fun i => by
    rw [hall i, hall k]
    have e : (⊥ : EReal) - ⊥ = ⊥ := by rw [sub_eq_add_neg, EReal.bot_add]
    rw [e, Ideal.exp_bot]
  unfold soft
  rw [hz j, Finset.sum_congr rfl fun i _ => hz i, Finset.sum_const_zero]
  simp [Ideal.div]

/-- A row with a finite largest value: the exponentials are reals, at most one, and one exactly at the largest values. -/
theorem exp_real {x : Fin 1000 → EReal} {k : Fin 1000} (hk : IsArg x k) {m : ℝ} (hm : x k = (m : EReal)) :
    ∃ e : Fin 1000 → ℝ, (∀ j, Ideal.exp (x j - x k) = (e j : EReal)) ∧ (∀ j, 0 ≤ e j) ∧ (∀ j, e j ≤ 1) ∧ e k = 1
      ∧ ∀ j, e j = 1 → x j = x k := by
  have h1 : ∀ j, ∃ r : ℝ, Ideal.exp (x j - x k) = (r : EReal) ∧ 0 ≤ r ∧ r ≤ 1 ∧ (j = k → r = 1) ∧ (r = 1 → x j = x k) := by
    intro j
    have hle := hk.1 j
    rw [hm] at hle
    rcases hj : x j with _ | r
    · refine ⟨0, ?_, le_refl _, zero_le_one, ?_, ?_⟩
      · rw [hm]
        change Ideal.exp ((⊥ : EReal) - (m : EReal)) = _
        rw [EReal.bot_sub, Ideal.exp_bot]; rfl
      · rintro rfl
        rw [hm] at hj
        exact absurd hj (EReal.coe_ne_bot m)
      · intro h; exact absurd h zero_ne_one
    · rcases r with _ | r
      · rw [hj] at hle
        exact absurd (top_le_iff.1 hle) (EReal.coe_ne_top m)
      · have hj' : x j = (r : EReal) := hj
        have hrm : r ≤ m := by rw [hj'] at hle; exact EReal.coe_le_coe_iff.1 hle
        refine ⟨Real.exp (r - m), ?_, (Real.exp_pos _).le, ?_, ?_, ?_⟩
        · rw [hm]
          change Ideal.exp ((r : EReal) - (m : EReal)) = _
          rw [← EReal.coe_sub, Ideal.exp_coe]
        · rw [← Real.exp_zero]; exact Real.exp_le_exp.2 (by linarith)
        · rintro rfl
          have : r = m := EReal.coe_eq_coe_iff.1 (hj'.symm.trans hm)
          rw [this, sub_self, Real.exp_zero]
        · intro h
          have : r - m = 0 := Real.exp_eq_one_iff _ |>.1 h
          rw [hm]
          change (r : EReal) = (m : EReal)
          rw [show r = m by linarith]
  choose e he using h1
  exact ⟨e, fun j => (he j).1, fun j => (he j).2.1, fun j => (he j).2.2.1, (he k).2.2.2.1 rfl, fun j => (he j).2.2.2.2⟩

/-- In a row below `+∞`, the softmax is largest at the row's first largest index, no earlier index reaches that value,
    and if the value is `-∞` the index is 0. -/
theorem soft_arg {x : Fin 1000 → EReal} {k : Fin 1000} (hk : IsArg x k) (hx : ∀ j, x j ≠ ⊤) :
    IsArg (soft x k) k ∧ (soft x k k = ⊥ → k = 0) := by
  rcases h : x k with _ | r
  · have hb := soft_bot hk h
    have k0 : k = 0 := by
      have h0 : x 0 = x k := (le_bot_iff.1 ((hk.1 0).trans (le_of_eq h))).trans h.symm
      exact le_antisymm (hk.2 0 h0) (Fin.zero_le _)
    refine ⟨⟨fun j => by rw [hb j, hb k], fun j _ => by rw [k0]; exact Fin.zero_le _⟩, fun _ => k0⟩
  · rcases r with _ | m
    · exact absurd h (hx k)
    · obtain ⟨e, he, h0, h1, hek, hone⟩ := exp_real hk (m := m) h
      have hZ : (∑ i, Ideal.exp (x i - x k)) = ((∑ i, e i : ℝ) : EReal) := by
        rw [Finset.sum_congr rfl fun i _ => he i]
        exact (coe_total _ _).symm
      have hpos : 0 < ∑ i, e i := by
        have := Finset.single_le_sum (f := e) (fun i _ => h0 i) (Finset.mem_univ k)
        rw [hek] at this
        linarith
      have hs : ∀ j, soft x k j = ((e j * (∑ i, e i)⁻¹ : ℝ) : EReal) := by
        intro j
        unfold soft
        rw [hZ, he j, Ideal.div, if_neg (by exact_mod_cast hpos.ne')]
        rw [EReal.coe_mul, EReal.coe_inv]
      refine ⟨⟨fun j => ?_, fun j hj => ?_⟩, fun hb => ?_⟩
      · rw [hs, hs, EReal.coe_le_coe_iff, hek]
        exact mul_le_mul_of_nonneg_right (h1 j) (inv_nonneg.2 hpos.le)
      · rw [hs, hs, EReal.coe_eq_coe_iff, hek] at hj
        exact hk.2 j (hone j (mul_right_cancel₀ (inv_ne_zero hpos.ne') hj))
      · rw [hs] at hb
        exact absurd hb (EReal.coe_ne_bot _)

end Cert.Precision

end
-- ==== Proof.KernelBlock.lean ====
/-
  One block's update of the two counters, read at a class: the rows that pick the class, and those of them that are
  labelled by it.
-/
module

public import proofs.«01_k».proof.Proof.Gen.KernelIdeal.Skeleton
public import proofs.«01_k».proof.Proof.ArgSpec
public import proofs.«01_k».proof.Proof.Generic
public import Idealize.ShloMosaic.Lib.MatmulPlain
public import Idealize.ShloMosaic.Lib.IdealHost
public import Idealize.ShloMosaic.Lib.KernelVsHost

@[expose] public section

noncomputable section

open Idealize.ShloMosaic Idealize.ShloMosaic.ValueIdx

namespace Cert.Precision

/-- A small word read signed is its number. -/
theorem toInt_word {n : Nat} (h : n < 2000) : (BitVec.ofNat 32 n).toInt = n := by
  rw [BitVec.toInt_eq_toNat_cond, BitVec.toNat_ofNat]
  omega

/-- An equality of words as a float, from a bit widened to a word. -/
theorem word_float (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · have e : IntOp.cmpi .eq a b = 1#1 := by subst h; simp [IntOp.cmpi]
    have e' : ((1#1 : BitVec 1).setWidth 32).toInt = 1 := by decide
    rw [if_pos h, e, e']; simp
  · have hb : (a == b) = false := beq_eq_false_iff_ne.2 h
    have e : IntOp.cmpi .eq a b = 0#1 := by simp [IntOp.cmpi, hb]
    have e' : ((0#1 : BitVec 1).setWidth 32).toInt = 0 := by decide
    rw [if_neg h, e, e']; simp

/-- A selection on an equality of two values. -/
theorem select_oeq (x y : EReal) (a b : BitVec 32) :
    Scalar.select (FloatOps.cmpf (F := Ideal) (φ := .f32) .oeq x y) a b = if x = y then a else b := by
  rw [Ideal.cmpf_def]
  by_cases h : x = y
  · have e : Ideal.cmp .oeq x y = 1#1 := by
      show BitVec.ofBool (decide _) = _
      rw [decide_eq_true h]; rfl
    rw [e, if_pos h]; rfl
  · have e : Ideal.cmp .oeq x y = 0#1 := by
      show BitVec.ofBool (decide _) = _
      rw [decide_eq_false h]; rfl
    rw [e, if_neg h]; rfl

/-- Words of small numbers are equal exactly when the numbers are. -/
theorem word_inj {a b : Nat} (ha : a < 2000) (hb : b < 2000) : BitVec.ofNat 32 a = BitVec.ofNat 32 b ↔ a = b := by
  constructor
  · intro h
    have := congrArg BitVec.toInt h
    rw [toInt_word ha, toInt_word hb] at this
    exact_mod_cast this
  · rintro rfl; rfl

end Cert.Precision

namespace Cert.KernelIdeal.Value

open Cert.KernelIdeal Cert.KernelIdeal.Gen Cert.Precision

/-- Each row's largest logit, repeated along the row. -/
def top (v : FVec Ideal S256x1000 .f32) : FVec Ideal S256x1000 .f32 :=
  broadcastTo S256x1000
    (shapeCast S256x1 (multiReduction .maximumf [1] S256 v 0xFF800000#32 reduces_S256x1000_S256 (.inl rfl) rfl) shapeCasts_S256_S256x1)
    broadcasts_S256x1_S256x1000

/-- The column where the logit is the row's largest, and a thousand elsewhere. -/
def candidates (v : FVec Ideal S256x1000 .f32) : IVec S256x1000 32 :=
  select (cmpf .oeq v (top v)) (iota .tc S256x1000 32 [1] iota_S256x1000_d1_w32) (broadcast S256x1000 1000#32)

/-- The class each row picks. -/
def word (v : FVec Ideal S256x1000 .f32) : IVec S256 32 :=
  multiReductionI .minsi [1] S256 (candidates v) 2147483647#32 reduces_S256x1000_S256 rfl

/-- One at the class a row picks, zero elsewhere. -/
def onehot (w : IVec S256 32) : FVec Ideal S256x1024 .f32 :=
  sitofp .f32 (extui 32 (cmpi .eq (broadcastTo S256x1024 (shapeCast S256x1 w shapeCasts_S256_S256x1) broadcasts_S256x1_S256x1024)
    (iota .tc S256x1024 32 [1] iota_S256x1024_d1_w32)) natLt_1_32)

/-- A row of ones. -/
def ones : FVec Ideal S1x256 .f32 := broadcast S1x256 (Scalar.ofBits .f32 0x3F800000#32)

/-- A row of ones where the class picked is the label. -/
def agree (w : IVec S256 32) (l : IVec S1x1x256 32) : FVec Ideal S1x256 .f32 :=
  shapeCast S1x256 (sitofp .f32 (extui 32 (cmpi .eq w (shapeCast S256 l shapeCasts_S1x1x256_S256)) natLt_1_32)) shapeCasts_S256_S1x256

/-- The two rows of weights. -/
def weights (w : IVec S256 32) (l : IVec S1x1x256 32) : FVec Ideal S2x256 .f32 :=
  concatenate S2x256 0 [⟨S1x256, ones⟩, ⟨S1x256, agree w l⟩] concatenates_S1x256_S1x256_S2x256_d0

/-- A block's update in these terms. -/
theorem pay2_eq (v : FVec Ideal S256x1000 .f32) (l : IVec S1x1x256 32) (a : FVec Ideal S2x1024 .f32) :
    k0_pay2 (F := Ideal) v l a
      = addf a (FloatOps.matmul dot_S2x256_S256x1024_S2x1024_1_0_0_1_n_n none (weights (word v) l) (onehot (word v))
          (constant S2x1024 .f32 0x00000000#32)) := by
  unfold k0_pay2
  dsimp only
  rw [shapeCast_self]
  rfl

/-- Column `k` put back into row `r`. -/
theorem lift_block (r : Fin 256) (k : Fin (S256x1000.size 1)) : reduces_S256x1000_S256.lift (ix1 r) k = @ix2 256 1000 r k := by
  funext a
  match a with
  | ⟨0, _⟩ => rfl
  | ⟨1, _⟩ => rfl

/-- A value per row as a column reads the row's value. -/
theorem column_eq {α : Type} (x : S256.Idx → α) (r : Fin 256) (z : Fin 1) :
    shapeCast S256x1 x shapeCasts_S256_S256x1 (ix2 r z) = x (ix1 r) := by
  refine shapeCast_apply x _ _ _ ?_
  rw [Shape.rowMajor_val_one, Shape.rowMajor_val_two]
  show r.val = r.val * 1 + z.val
  omega

/-- The largest logit at any column of a row. -/
theorem top_eq (v : FVec Ideal S256x1000 .f32) (r : Fin 256) (j k : Fin 1000) (hk : IsArg (fun j => (v (ix2 r j) : EReal)) k) :
    (top v (ix2 r j) : EReal) = v (ix2 r k) := by
  unfold top
  rw [broadcastTo_apply _ _ _ (ix2 r (0 : Fin 1)) (fun a => by
    match a with
    | ⟨0, _⟩ => rfl
    | ⟨1, _⟩ => rfl), column_eq]
  exact (multiReduction_max v reduces_S256x1000_S256 (.inl rfl) rfl (ix1 r) k
    (fun i => by rw [lift_block r i, lift_block r k]; exact hk.1 i)).trans (congrArg v (lift_block r k))

/-- The class a row picks is the first at which its logit is largest. -/
theorem word_eq (v : FVec Ideal S256x1000 .f32) (r : Fin 256) (k : Fin 1000) (hk : IsArg (fun j => (v (ix2 r j) : EReal)) k) :
    word v (ix1 r) = BitVec.ofNat 32 k.val := by
  have hc : ∀ j : Fin 1000, candidates v (ix2 r j)
      = if (v (ix2 r j) : EReal) = v (ix2 r k) then BitVec.ofNat 32 j.val else 1000#32 := by
    intro j
    rw [← select_oeq, ← top_eq v r j k hk]
    unfold candidates
    rw [select_apply, iota_single_apply]
    rfl
  have hkk : candidates v (ix2 r k) = BitVec.ofNat 32 k.val := by rw [hc, if_pos rfl]
  have hmin : ∀ j : Fin 1000, (candidates v (ix2 r k)).toInt ≤ (candidates v (ix2 r j)).toInt := by
    intro j
    rw [hkk, hc, toInt_word (by omega)]
    by_cases h : (v (ix2 r j) : EReal) = v (ix2 r k)
    · rw [if_pos h, toInt_word (by omega)]
      exact_mod_cast hk.2 j h
    · rw [if_neg h, show (1000#32 : BitVec 32).toInt = 1000 by decide]
      have := k.isLt
      omega
  unfold word
  exact (multiReduction_min (candidates v) reduces_S256x1000_S256 rfl (ix1 r) k
    (fun j => by rw [lift_block r j, lift_block r k]; exact hmin j)).trans ((congrArg (candidates v) (lift_block r k)).trans hkk)

/-- The one-hot row of a picked class, at a class. -/
theorem onehot_eq (w : IVec S256 32) (r : Fin 256) (c : Fin 1024) (k : Fin 1000) (h : w (ix1 r) = BitVec.ofNat 32 k.val) :
    (onehot w (ix2 r c) : EReal) = if k.val = c.val then 1 else 0 := by
  have e : (onehot w (ix2 r c) : EReal) = FloatOps.sitofp (F := Ideal) .f32 ((IntOp.cmpi .eq (w (ix1 r)) (BitVec.ofNat 32 c.val)).setWidth 32) := by
    unfold onehot
    rw [sitofp_apply, extui_apply]
    show FloatOps.sitofp (F := Ideal) .f32 ((IntOp.cmpi .eq (broadcastTo _ _ _ (ix2 r c)) (iota _ _ _ _ _ (ix2 r c))).setWidth 32) = _
    rw [broadcastTo_apply _ _ _ (ix2 r (0 : Fin 1)) (fun a => by
      match a with
      | ⟨0, _⟩ => rfl
      | ⟨1, _⟩ => rfl), column_eq, iota_single_apply]
  rw [e, word_float, h]
  exact if_congr (word_inj (by omega) (by omega)) rfl rfl

/-- The first row of weights is ones. -/
theorem weights_zero (w : IVec S256 32) (l : IVec S1x1x256 32) (r : Fin 256) : (weights w l (ix2 (0 : Fin 2) r) : EReal) = 1 := by
  unfold weights
  rw [concatenate_pair_apply_left 0 ones (agree w l) concatenates_S1x256_S1x256_S2x256_d0 (ix2 (0 : Fin 2) r) rfl (ix2 (0 : Fin 1) r) (fun b => by
    match b with
    | ⟨0, _⟩ => rfl
    | ⟨1, _⟩ => rfl)]
  exact Ideal.ofBits_one_f32

/-- The second row of weights is one where the class picked is the label. -/
theorem weights_one (w : IVec S256 32) (l : IVec S1x1x256 32) (r : Fin 256) :
    (weights w l (ix2 (1 : Fin 2) r) : EReal) = if w (ix1 r) = l (ix3 (0 : Fin 1) (0 : Fin 1) r) then 1 else 0 := by
  unfold weights
  rw [concatenate_pair_apply_right 0 ones (agree w l) concatenates_S1x256_S1x256_S2x256_d0 (ix2 (1 : Fin 2) r) rfl rfl (ix2 (0 : Fin 1) r) (fun b hb => by
    match b with
    | ⟨0, _⟩ => exact absurd rfl hb
    | ⟨1, _⟩ => rfl) rfl]
  unfold agree
  rw [shapeCast_apply _ _ _ (ix1 r) (by
    rw [Shape.rowMajor_val_one, Shape.rowMajor_val_two]
    show r.val = 0 * 256 + r.val
    omega), ← word_float, sitofp_apply, extui_apply]
  have e : shapeCast S256 l shapeCasts_S1x1x256_S256 (ix1 r) = l (ix3 (0 : Fin 1) (0 : Fin 1) r) :=
    shapeCast_apply l _ _ _ (by
      rw [Shape.rowMajor_val_one, Shape.rowMajor_val_three]
      show (0 * 1 + 0) * 256 + r.val = r.val
      omega)
  rw [← e]
  rfl

/-- A block's update at a class is the counter plus the products of weights and one-hot rows. -/
theorem pay2_at (v : FVec Ideal S256x1000 .f32) (l : IVec S1x1x256 32) (a : FVec Ideal S2x1024 .f32) (i : Fin 2) (c : Fin 1024) :
    (k0_pay2 (F := Ideal) v l a (ix2 i c) : EReal)
      = a (ix2 i c) + ∑ r : Fin 256, (weights (word v) l (ix2 i r) : EReal) * onehot (word v) (ix2 r c) := by
  have e := Ideal.matmul_plain_apply none (weights (word v) l) (onehot (word v)) (constant S2x1024 .f32 0x00000000#32) i c
  have z : (constant (F := Ideal) S2x1024 .f32 0x00000000#32 (ix2 i c) : EReal) = 0 := Ideal.ofBits_zero_f32
  rw [z, zero_add] at e
  rw [pay2_eq, addf_apply, ← e]
  rfl

/-- The first counter's update: the block's rows that pick the class. -/
theorem pay2_marks (v : FVec Ideal S256x1000 .f32) (l : IVec S1x1x256 32) (a : FVec Ideal S2x1024 .f32) (k : Fin 256 → Fin 1000)
    (hk : ∀ r, IsArg (fun j => (v (ix2 r j) : EReal)) (k r)) (c : Fin 1024) :
    (k0_pay2 (F := Ideal) v l a (ix2 (0 : Fin 2) c) : EReal)
      = a (ix2 (0 : Fin 2) c) + ∑ r : Fin 256, if (k r).val = c.val then 1 else 0 := by
  rw [pay2_at]
  refine congrArg (_ + ·) (Finset.sum_congr rfl fun r _ => ?_)
  rw [weights_zero, onehot_eq _ r c (k r) (word_eq v r (k r) (hk r)), one_mul]

/-- The second counter's update: the block's rows that pick the class and are labelled by it. -/
theorem pay2_hits (v : FVec Ideal S256x1000 .f32) (l : IVec S1x1x256 32) (a : FVec Ideal S2x1024 .f32) (k : Fin 256 → Fin 1000)
    (hk : ∀ r, IsArg (fun j => (v (ix2 r j) : EReal)) (k r)) (c : Fin 1024) :
    (k0_pay2 (F := Ideal) v l a (ix2 (1 : Fin 2) c) : EReal)
      = a (ix2 (1 : Fin 2) c) + ∑ r : Fin 256, if (k r).val = c.val then
          (if BitVec.ofNat 32 (k r).val = l (ix3 (0 : Fin 1) (0 : Fin 1) r) then 1 else 0) else 0 := by
  rw [pay2_at]
  refine congrArg (_ + ·) (Finset.sum_congr rfl fun r _ => ?_)
  rw [weights_one, onehot_eq _ r c (k r) (word_eq v r (k r) (hk r)), word_eq v r (k r) (hk r)]
  by_cases h : (k r).val = c.val
  · rw [if_pos h, if_pos h, mul_one]
  · rw [if_neg h, if_neg h, mul_zero]

end Cert.KernelIdeal.Value

end
-- ==== Proof.Spec.lean ====
/-
  The one number both programs return: the mean over the thousand classes of the precision, the rows' first largest
  classes taken as the predictions.
-/
module

public import proofs.«01_k».proof.Proof.ArgSpec
public import proofs.«01_k».proof.Proof.Generic

@[expose] public section

noncomputable section

open Idealize.ShloMosaic

namespace Cert.Precision

/-- How many rows pick class `c`. -/
def markCount (k : Fin 16384 → Fin 1000) (c : ℕ) : EReal := ∑ r, if (k r).val = c then 1 else 0

/-- How many rows pick class `c` and are labelled by what they pick. -/
def hitCount (k : Fin 16384 → Fin 1000) (l : Fin 16384 → BitVec 32) (c : ℕ) : EReal :=
  ∑ r, if (k r).val = c then (if BitVec.ofNat 32 (k r).val = l r then 1 else 0) else 0

/-- The mean over the thousand classes of the precision. -/
def meanPrecision (k : Fin 16384 → Fin 1000) (l : Fin 16384 → BitVec 32) : EReal :=
  Ideal.div (∑ c : Fin 1000, frac (hitCount k l c.val) (markCount k c.val)) (Ideal.ofBits .f32 0x447A0000#32)

end Cert.Precision

end
-- ==== Proof.KernelSum.lean ====
/-
  The kernel's counters after all sixty-four blocks are the counts over all rows, and its returned scalar is the mean
  precision.
-/
module

public import proofs.«01_k».proof.Proof.KernelRun
public import proofs.«01_k».proof.Proof.KernelBlock
public import proofs.«01_k».proof.Proof.Spec

@[expose] public section

noncomputable section

open Idealize.ShloMosaic Idealize.ShloMosaic.ValueIdx Idealize.ShloMosaic.TcCoe

namespace Cert.Precision

/-- Row `r` of block `t`. -/
def row (t : ℕ) (r : Fin 256) : Fin 16384 := ⟨(t * 256 + r.val) % 16384, Nat.mod_lt _ (by decide)⟩

/-- The blocks' rows are all the rows. -/
theorem sum_blocks (f : Fin 16384 → EReal) : ∑ t ∈ Finset.range 64, ∑ r : Fin 256, f (row t r) = ∑ i, f i := by
  rw [Finset.sum_range, ← Fintype.sum_prod_type' (f := fun (t : Fin 64) (r : Fin 256) => f (row t.val r))]
  refine Fintype.sum_equiv (finProdFinEquiv.trans (finCongr (by norm_num))) _ _ fun p => congrArg f (Fin.ext ?_)
  have h1 := p.1.isLt
  have h2 := p.2.isLt
  show (p.1.val * 256 + p.2.val) % 16384 = p.2.val + 256 * p.1.val
  omega

/-- A sum over 1024 classes whose last 24 terms are zero. -/
theorem sum_classes (g : ℕ → EReal) (h : ∀ c, 1000 ≤ c → g c = 0) : ∑ c : Fin 1024, g c.val = ∑ c : Fin 1000, g c.val := by
  rw [← Finset.sum_range, ← Finset.sum_range]
  refine (Finset.sum_subset (fun c hc => ?_) fun c _ hc => ?_).symm
  · rw [Finset.mem_range] at *; omega
  · rw [Finset.mem_range] at hc; exact h c (by omega)

/-- No row picks a class past the thousandth. -/
theorem markCount_zero (k : Fin 16384 → Fin 1000) (c : ℕ) (h : 1000 ≤ c) : markCount k c = 0 := by
  unfold markCount
  exact Finset.sum_eq_zero fun r _ => if_neg (by have := (k r).isLt; omega)

end Cert.Precision

namespace Cert.KernelIdeal.Value

open Cert.KernelIdeal Cert.KernelIdeal.Gen Cert.Precision

variable (m : (ℓ : Loc nD τ sig) → Buf (Elt Ideal) ℓ)

/-- The logits. -/
abbrev logits (c : Dev nD) : FVec Ideal S16384x1000 .f32 := m ((c : Thread nD τ).loc main_arg0)

/-- The labels. -/
abbrev labels (c : Dev nD) : IVec S16384 32 := m ((c : Thread nD τ).loc main_arg1)

/-- The class a row picks. -/
abbrev pick (c : Dev nD) (r : Fin 16384) : Fin 1000 := arg fun i => (logits m c (ix2 r i) : EReal)

/-- Each window's block at a point is the block of the point's number. -/
theorem index0 : ∀ t : Fin cfg0.N, win0_0.index t 0 = t.val ∧ win0_0.index t 1 = 0 := (by decide +kernel : ∀ t : Fin grid0.N, _)
/-- The labels' window likewise. -/
theorem index1 : ∀ t : Fin cfg0.N, win0_1.index t 0 = t.val ∧ win0_1.index t 1 = 0 ∧ win0_1.index t 2 = 0 :=
  (by decide +kernel : ∀ t : Fin grid0.N, _)

/-- A point's block of logits. -/
abbrev xblk (c : Dev nD) (t : Fin cfg0.N) : FVec Ideal S256x1000 .f32 := iblk m c 0 t
/-- A point's block of labels. -/
abbrev lblk (c : Dev nD) (t : Fin cfg0.N) : IVec S1x1x256 32 := iblk m c 1 t

/-- A block of logits at a row and a class. -/
theorem xblk_eq (c : Dev nD) (t : Fin cfg0.N) (r : Fin 256) (j : Fin 1000) : xblk m c t (ix2 r j) = logits m c (ix2 (row t.val r) j) := by
  have hN : t.val < 64 := lt_of_lt_of_eq t.isLt (show cfg0.N = 64 from N_0)
  have h1 := r.isLt
  show iblk m c 0 t (ix2 r j) = _
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ =>
    show win0_0.index t 0 * 256 + 1 * r.val = (t.val * 256 + r.val) % 16384
    rw [(index0 t).1]; omega
  | ⟨1, _⟩ =>
    show win0_0.index t 1 * 1000 + 1 * j.val = j.val
    rw [(index0 t).2]; omega

/-- The labels in blocks, as the region finds them. -/
theorem V_main_v0 (c : Dev nD) : V m c main_v0 = shapeCast S64x1x256 (labels m c) shapeCasts_S16384_S64x1x256 := by
  show StableHlo.after hostOps0 _ (Proc.devRef .tc main_v0) = _
  after_results_simp
  rfl

/-- A block of labels at a row. -/
theorem lblk_eq (c : Dev nD) (t : Fin cfg0.N) (r : Fin 256) :
    lblk m c t (ix3 (0 : Fin 1) (0 : Fin 1) r) = labels m c (ix1 (row t.val r)) := by
  have hN : t.val < 64 := lt_of_lt_of_eq t.isLt (show cfg0.N = 64 from N_0)
  have h1 := r.isLt
  have e : lblk m c t (ix3 (0 : Fin 1) (0 : Fin 1) r) = (V m c main_v0 : IVec S64x1x256 32) (ix3 ⟨t.val, hN⟩ (0 : Fin 1) r) := by
    show iblk m c 1 t (ix3 (0 : Fin 1) (0 : Fin 1) r) = _
    unfold iblk
    rw [View.read_apply]
    show V m c main_v0 _ = V m c main_v0 _
    congr 1
    funext a
    apply Fin.ext
    match a with
    | ⟨0, _⟩ =>
      show win0_1.index t 0 * 1 + 1 * 0 = t.val
      rw [(index1 t).1]; omega
    | ⟨1, _⟩ =>
      show win0_1.index t 1 * 1 + 1 * 0 = 0
      rw [(index1 t).2.1]
    | ⟨2, _⟩ =>
      show win0_1.index t 2 * 256 + 1 * r.val = r.val
      rw [(index1 t).2.2]; omega
  rw [e, V_main_v0]
  refine shapeCast_apply _ _ _ _ ?_
  rw [Shape.rowMajor_val_one, Shape.rowMajor_val_three]
  show (t.val * 256 + r.val) % 16384 = (t.val * 1 + 0) * 256 + r.val
  omega

/-- A block's rows pick the classes of the whole array's rows. -/
theorem isArg_blk (c : Dev nD) (t : Fin cfg0.N) (r : Fin 256) :
    IsArg (fun j => (xblk m c t (ix2 r j) : EReal)) (pick m c (row t.val r)) := by
  have e : (fun j => (xblk m c t (ix2 r j) : EReal)) = fun j => (logits m c (ix2 (row t.val r) j) : EReal) :=
    funext fun j => xblk_eq m c t r j
  rw [e]
  exact isArg_arg _

/-- The counters start at zero. -/
theorem pay1_zero (i : Fin 2) (d : Fin 1024) : (k0_pay1 (F := Ideal) (ix2 i d) : EReal) = 0 := by
  unfold k0_pay1
  rw [shapeCast_self]
  exact Ideal.ofBits_zero_f32

/-- The first counter after some blocks. -/
theorem acc_marks (c : Dev nD) (d : Fin 1024) (n : ℕ) (h : n < cfg0.N) : (acc m c n h (ix2 (0 : Fin 2) d) : EReal)
    = ∑ t ∈ Finset.range (n + 1), ∑ r : Fin 256, if (pick m c (row t r)).val = d.val then 1 else 0 := by
  induction n with
  | zero =>
    rw [Finset.sum_range_one]
    have e := pay2_marks (xblk m c ⟨0, h⟩) (lblk m c ⟨0, h⟩) (k0_pay1 (F := Ideal)) (fun r => pick m c (row 0 r))
      (fun r => isArg_blk m c ⟨0, h⟩ r) d
    rw [pay1_zero, zero_add] at e
    exact e
  | succ n ih =>
    rw [Finset.sum_range_succ, ← ih (Nat.lt_of_succ_lt h)]
    exact pay2_marks (xblk m c ⟨n + 1, h⟩) (lblk m c ⟨n + 1, h⟩) (acc m c n _) (fun r => pick m c (row (n + 1) r))
      (fun r => isArg_blk m c ⟨n + 1, h⟩ r) d

/-- A block's update of the second counter, in the whole array's rows. -/
theorem blk_hits (c : Dev nD) (d : Fin 1024) (t : Fin cfg0.N) (a : FVec Ideal S2x1024 .f32) :
    (k0_pay2 (F := Ideal) (xblk m c t) (lblk m c t) a (ix2 (1 : Fin 2) d) : EReal)
      = a (ix2 (1 : Fin 2) d) + ∑ r : Fin 256, if (pick m c (row t.val r)).val = d.val then
          (if BitVec.ofNat 32 (pick m c (row t.val r)).val = labels m c (ix1 (row t.val r)) then 1 else 0) else 0 := by
  rw [pay2_hits (xblk m c t) (lblk m c t) a (fun r => pick m c (row t.val r)) (fun r => isArg_blk m c t r) d]
  refine congrArg (_ + ·) (Finset.sum_congr rfl fun r _ => ?_)
  rw [lblk_eq]

/-- The second counter after some blocks. -/
theorem acc_hits (c : Dev nD) (d : Fin 1024) (n : ℕ) (h : n < cfg0.N) : (acc m c n h (ix2 (1 : Fin 2) d) : EReal)
    = ∑ t ∈ Finset.range (n + 1), ∑ r : Fin 256, if (pick m c (row t r)).val = d.val then
        (if BitVec.ofNat 32 (pick m c (row t r)).val = labels m c (ix1 (row t r)) then 1 else 0) else 0 := by
  induction n with
  | zero =>
    rw [Finset.sum_range_one]
    have e := blk_hits m c d ⟨0, h⟩ (k0_pay1 (F := Ideal))
    rw [pay1_zero, zero_add] at e
    exact e
  | succ n ih =>
    rw [Finset.sum_range_succ, ← ih (Nat.lt_of_succ_lt h)]
    exact blk_hits m c d ⟨n + 1, h⟩ (acc m c n _)

/-- The finished first counter counts the rows that pick a class. -/
theorem counters_marks (c : Dev nD) (d : Fin 1024) : (counters m c (ix2 (0 : Fin 2) d) : EReal) = markCount (pick m c) d.val :=
  (acc_marks m c d 63 _).trans (sum_blocks fun i => if (pick m c i).val = d.val then 1 else 0)

/-- The finished second counter counts the rows that pick a class and are labelled by it. -/
theorem counters_hits (c : Dev nD) (d : Fin 1024) : (counters m c (ix2 (1 : Fin 2) d) : EReal)
    = hitCount (pick m c) (fun r => labels m c (ix1 r)) d.val :=
  (acc_hits m c d 63 _).trans (sum_blocks fun i => if (pick m c i).val = d.val then
    (if BitVec.ofNat 32 (pick m c i).val = labels m c (ix1 i) then 1 else 0) else 0)

/-- The first counter's row. -/
theorem row0_eq (a : FVec Ideal S2x1024 .f32) (d : Fin 1024) : row0 (F := Ideal) a (ix2 (0 : Fin 1) d) = a (ix2 (0 : Fin 2) d) := by
  unfold row0
  rw [View.ld_unit]
  refine extractStridedSlice_apply _ _ _ _ _ fun b => ?_
  match b with
  | ⟨0, _⟩ => rfl
  | ⟨1, _⟩ => exact (Nat.zero_add _).symm

/-- The second counter's row. -/
theorem row1_eq (a : FVec Ideal S2x1024 .f32) (d : Fin 1024) : row1 (F := Ideal) a (ix2 (0 : Fin 1) d) = a (ix2 (1 : Fin 2) d) := by
  unfold row1
  rw [View.ld_unit]
  refine extractStridedSlice_apply _ _ _ _ _ fun b => ?_
  match b with
  | ⟨0, _⟩ => rfl
  | ⟨1, _⟩ => exact (Nat.zero_add _).symm

/-- Class `d` put back into the one row. -/
theorem lift_row (d : Fin (S1x1024.size 1)) : reduces_S1x1024_S1.lift (ix1 (0 : Fin 1)) d = @ix2 1 1024 0 d := by
  funext a
  match a with
  | ⟨0, _⟩ => rfl
  | ⟨1, _⟩ => rfl

/-- The precision at every class, as the last point computes it from the two counters. -/
def fracs (p t : FVec Ideal S1x1024 .f32) : FVec Ideal S1x1024 .f32 :=
  select (cmpf .ogt p (broadcast S1x1024 (Scalar.ofBits .f32 0x00000000#32)))
    (divf t (select (cmpf .ogt p (broadcast S1x1024 (Scalar.ofBits .f32 0x00000000#32))) p
      (broadcast S1x1024 (Scalar.ofBits .f32 0x3F800000#32))))
    (broadcast S1x1024 (Scalar.ofBits .f32 0x00000000#32))

/-- A precision at a class. -/
theorem fracs_eq (p t : FVec Ideal S1x1024 .f32) (i : S1x1024.Idx) : (fracs p t i : EReal) = frac (t i) (p i) :=
  select_frac _ _

/-- The last point's number is the mean precision of the two rows. -/
theorem pay3_eq (p t : FVec Ideal S1x1024 .f32) (i : S1x1.Idx) : (k0_pay3 (F := Ideal) p t i : EReal)
    = Ideal.div (∑ d : Fin 1024, frac (t (ix2 (0 : Fin 1) d)) (p (ix2 (0 : Fin 1) d))) (Ideal.ofBits .f32 0x447A0000#32) := by
  have e : k0_pay3 (F := Ideal) p t = divf
      (shapeCast S1x1 (multiReduction .add [1] S1 (fracs p t) 0x00000000#32 reduces_S1x1024_S1 (.inl rfl) rfl) shapeCasts_S1_S1x1)
      (broadcast S1x1 (Scalar.ofBits .f32 0x447A0000#32)) := rfl
  have hs : (multiReduction .add [1] S1 (fracs p t) 0x00000000#32 reduces_S1x1024_S1 (.inl rfl) rfl (ix1 (0 : Fin 1)) : EReal)
      = ∑ d : Fin 1024, frac (t (ix2 (0 : Fin 1) d)) (p (ix2 (0 : Fin 1) d)) := by
    refine (multiReduction_sum (fracs p t) reduces_S1x1024_S1 (.inl rfl) rfl (ix1 (0 : Fin 1))).trans ?_
    refine Finset.sum_congr rfl fun d _ => ?_
    rw [lift_row d]
    exact fracs_eq _ _ _
  rw [e, divf_apply, shapeCast_apply _ shapeCasts_S1_S1x1 i (ix1 (0 : Fin 1)) (by
    rw [Shape.rowMajor_val_one, Shape.rowMajor_val_two]
    have h0 : (i 0).val < 1 := (i 0).isLt
    have h1 : (i 1).val < 1 := (i 1).isLt
    show 0 = (i 0).val * 1 + (i 1).val
    omega), hs]
  rfl

/-- The kernel's returned scalar: the mean precision of the rows' first largest classes. -/
theorem out_value (c : Dev nD) (j : S_.Idx) :
    ((out m c : FVec Ideal S_ .f32) j : EReal) = meanPrecision (pick m c) (fun r => labels m c (ix1 r)) := by
  have e : (out m c : FVec Ideal S_ .f32) j = cell m c (ix2 (0 : Fin 1) (0 : Fin 1)) :=
    shapeCast_apply _ _ _ _ (by
      have h1 := (S1x1.rowMajor (ix2 (0 : Fin 1) (0 : Fin 1))).isLt
      have h2 := (S_.rowMajor j).isLt
      have n1 : S1x1.numel = 1 := by decide
      have n2 : S_.numel = 1 := by decide
      omega)
  have hs : ∑ d : Fin 1024, frac (row1 (F := Ideal) (counters m c) (ix2 (0 : Fin 1) d)) (row0 (F := Ideal) (counters m c) (ix2 (0 : Fin 1) d))
      = ∑ d : Fin 1000, frac (hitCount (pick m c) (fun r => labels m c (ix1 r)) d.val) (markCount (pick m c) d.val) := by
    refine (Finset.sum_congr rfl fun d _ => ?_).trans
      (sum_classes (fun d => frac (hitCount (pick m c) (fun r => labels m c (ix1 r)) d) (markCount (pick m c) d)) fun d hd => ?_)
    · rw [row0_eq, row1_eq, counters_marks, counters_hits]
    · rw [markCount_zero _ _ hd, frac_zero]
  rw [e]
  unfold meanPrecision
  rw [← hs]
  exact pay3_eq _ _ _

end Cert.KernelIdeal.Value

end
-- ==== Proof.RefRun.lean ====
/-
  The reference's run, read as one value: the softmax of each row (`probs`), its arg-max (`preds`), the two counts per
  class (`hits`, `marks`) and the mean precision (`mean`), with both arguments unchanged.
-/
module

public import proofs.«01_k».proof.Proof.Gen.ReferenceIdeal
public import Idealize.ShloMosaic.Lib.Claim

@[expose] public section

noncomputable section

open Idealize.ShloMosaic Idealize.ShloMosaic.TcCoe Idealize.SL.Sem Idealize.ShloMosaic.StableHlo

namespace Cert.ReferenceIdeal.Value

open Cert.ReferenceIdeal Cert.ReferenceIdeal.Gen

variable {F : FTy → Type} [FloatOps F]

/-- Every row's largest logit. -/
def rowMax (x : FVec F S16384x1000 .f32) : FVec F S16384 .f32 :=
  maximumf (broadcastInDim S16384 ![] bcast_S_S16384 (constant S_ .f32 0xFF800000#32))
    (Host.reduce FloatOps.maximumf x (constant S_ .f32 0xFF800000#32) reducesTo_S16384x1000_S16384_d1 h_S_)

/-- One value per row, repeated along the row. -/
def spread (v : FVec F S16384 .f32) : FVec F S16384x1000 .f32 :=
  broadcastInDim S16384x1000 ![0, 1] bcast_S16384x1_S16384x1000_0_1 (broadcastInDim S16384x1 ![0] bcast_S16384_S16384x1_0 v)

/-- The exponentials of the logits less their row's largest. -/
def expos (x : FVec F S16384x1000 .f32) : FVec F S16384x1000 .f32 := Host.exp (subf x (spread (rowMax x)))

/-- The softmax of every row. -/
def probs (x : FVec F S16384x1000 .f32) : FVec F S16384x1000 .f32 :=
  Host.divf (expos x) (spread (Host.reduceAdd (expos x) (constant S_ .f32 0x00000000#32) reducesTo_S16384x1000_S16384_d1 h_S_))

/-- The index an arg-max picks. -/
def picked {s t u : Shape} {axes : List (Fin s.rank)} (p : FVec F s .f32) (y : IVec s 32) (ix : FVec F u .f32) (iy : IVec u 32)
    (h : s.ReducesTo axes t) (hu : 0 < u.numel) : IVec t 32 := fun j =>
  (Host.argReduce reducer_argmax_f32_i32 p y ix iy h hu j).2

/-- The class each row's arg-max picks. -/
def preds (p : FVec F S16384x1000 .f32) : IVec S16384 32 :=
  picked p (iotaInDim S16384x1000 32 1) (constant S_ .f32 0xFF800000#32) (constantI S_ 32 0#32) reducesTo_S16384x1000_S16384_d1 h_S_

/-- The index each row adds at: its class, a negative one counted from the end. -/
def spots (q : IVec S16384 32) : IVec S16384x1 32 :=
  broadcastInDim S16384x1 ![0] bcast_S16384_S16384x1_0
    (select (cmpi .slt q (broadcastInDim S16384 ![] bcast_S_S16384 (constantI S_ 32 0#32)))
      (addi q (broadcastInDim S16384 ![] bcast_S_S16384 (constantI S_ 32 1000#32))) q)

/-- Zero at every class. -/
def zeros : FVec F S1000 .f32 := broadcastInDim S1000 ![] bcast_S_S1000 (constant S_ .f32 0x00000000#32)

/-- Per class, how many rows are predicted as it and labelled as it. -/
def hits (q : IVec S16384 32) (l : IVec S16384 32) : FVec F S1000 .f32 :=
  Host.scatterAdd scatter_S1000_S16384x1_S16384_n_0_0_1 zeros (spots q) (uitofp .f32 (cmpi .eq q l))

/-- Per class, how many rows are predicted as it. -/
def marks (q : IVec S16384 32) : FVec F S1000 .f32 :=
  Host.scatterAdd scatter_S1000_S16384x1_S16384_n_0_0_1 zeros (spots q) (broadcastInDim S16384 ![] bcast_S_S16384 (constant S_ .f32 0x3F800000#32))

/-- The mean over the classes of hits over marks, zero where nothing is marked. -/
def mean (t p : FVec F S1000 .f32) : FVec F S_ .f32 :=
  Host.divf
    (Host.reduceAdd
      (select (cmpf .ogt p zeros)
        (Host.divf t (select (cmpf .ogt p zeros) p (broadcastInDim S1000 ![] bcast_S_S1000 (constant S_ .f32 0x3F800000#32))))
        (broadcastInDim S1000 ![] bcast_S_S1000 (constant S_ .f32 0x00000000#32)))
      (constant S_ .f32 0x00000000#32) reducesTo_S1000_S_d0 h_S_)
    (constant S_ .f32 0x447A0000#32)

/-- The value the reference returns. -/
def out (x : FVec F S16384x1000 .f32) (l : IVec S16384 32) : FVec F S_ .f32 :=
  mean (hits (preds (probs x)) l) (marks (preds (probs x)))

/-- The program's operations in order, the calls' operations in their place. -/
abbrev ops : List (HloOp τ sig (Elt F)) :=
  [ nullary main_cst (constant S_ .f32 0xFF800000#32),
    binary main_arg0 main_cst main_v0 ((fun x v => Host.reduce FloatOps.maximumf x v reducesTo_S16384x1000_S16384_d1 h_S_) : (⟨S16384x1000, .f32⟩ : BufTy).Contents (Elt F) → (⟨S_, .f32⟩ : BufTy).Contents (Elt F) → (⟨S16384, .f32⟩ : BufTy).Contents (Elt F)),
    nullary main_cst_0 (constant S_ .f32 0xFF800000#32),
    unary main_cst_0 main_v1 (broadcastInDim S16384 ![] bcast_S_S16384 : (⟨S_, .f32⟩ : BufTy).Contents (Elt F) → (⟨S16384, .f32⟩ : BufTy).Contents (Elt F)),
    binary main_v1 main_v0 main_v2 (maximumf : (⟨S16384, .f32⟩ : BufTy).Contents (Elt F) → (⟨S16384, .f32⟩ : BufTy).Contents (Elt F) → (⟨S16384, .f32⟩ : BufTy).Contents (Elt F)),
    unary main_v2 main_v3 (broadcastInDim S16384x1 ![0] bcast_S16384_S16384x1_0 : (⟨S16384, .f32⟩ : BufTy).Contents (Elt F) → (⟨S16384x1, .f32⟩ : BufTy).Contents (Elt F)),
    unary main_v3 main_v4 (broadcastInDim S16384x1000 ![0, 1] bcast_S16384x1_S16384x1000_0_1 : (⟨S16384x1, .f32⟩ : BufTy).Contents (Elt F) → (⟨S16384x1000, .f32⟩ : BufTy).Contents (Elt F)),
    binary main_arg0 main_v4 main_v5 (subf : (⟨S16384x1000, .f32⟩ : BufTy).Contents (Elt F) → (⟨S16384x1000, .f32⟩ : BufTy).Contents (Elt F) → (⟨S16384x1000, .f32⟩ : BufTy).Contents (Elt F)),
    unary main_v5 main_v6 (Host.exp : (⟨S16384x1000, .f32⟩ : BufTy).Contents (Elt F) → (⟨S16384x1000, .f32⟩ : BufTy).Contents (Elt F)),
    nullary main_cst_1 (constant S_ .f32 0x00000000#32),
    binary main_v6 main_cst_1 main_v7 ((fun x v => Host.reduceAdd x v reducesTo_S16384x1000_S16384_d1 h_S_) : (⟨S16384x1000, .f32⟩ : BufTy).Contents (Elt F) → (⟨S_, .f32⟩ : BufTy).Contents (Elt F) → (⟨S16384, .f32⟩ : BufTy).Contents (Elt F)),
    unary main_v7 main_v8 (broadcastInDim S16384x1 ![0] bcast_S16384_S16384x1_0 : (⟨S16384, .f32⟩ : BufTy).Contents (Elt F) → (⟨S16384x1, .f32⟩ : BufTy).Contents (Elt F)),
    unary main_v8 main_v9 (broadcastInDim S16384x1000 ![0, 1] bcast_S16384x1_S16384x1000_0_1 : (⟨S16384x1, .f32⟩ : BufTy).Contents (Elt F) → (⟨S16384x1000, .f32⟩ : BufTy).Contents (Elt F)),
    binary main_v6 main_v9 main_v10 (Host.divf : (⟨S16384x1000, .f32⟩ : BufTy).Contents (Elt F) → (⟨S16384x1000, .f32⟩ : BufTy).Contents (Elt F) → (⟨S16384x1000, .f32⟩ : BufTy).Contents (Elt F)),
    TRef.nullary main_call0.v0 (iotaInDim S16384x1000 32 1),
    TRef.nullary main_call0.cst (constant S_ .f32 0xFF800000#32),
    TRef.nullary main_call0.c (constantI S_ 32 0#32),
    TRef.quaternary (.of main_v10) main_call0.v0 main_call0.cst main_call0.c main_call0.v1_0 (fun x y u v j => (Host.argReduce reducer_argmax_f32_i32 x y u v reducesTo_S16384x1000_S16384_d1 h_S_ j).1),
    TRef.quaternary (.of main_v10) main_call0.v0 main_call0.cst main_call0.c main_call0.v1_1 (fun x y u v j => (Host.argReduce reducer_argmax_f32_i32 x y u v reducesTo_S16384x1000_S16384_d1 h_S_ j).2),
    nullary main_cst_2 (constant S_ .f32 0x00000000#32),
    unary main_cst_2 main_v12 (broadcastInDim S1000 ![] bcast_S_S1000 : (⟨S_, .f32⟩ : BufTy).Contents (Elt F) → (⟨S1000, .f32⟩ : BufTy).Contents (Elt F)),
    binary main_v11 main_arg1 main_v13 (cmpi .eq : (⟨S16384, .i32⟩ : BufTy).Contents (Elt F) → (⟨S16384, .i32⟩ : BufTy).Contents (Elt F) → (⟨S16384, .i1⟩ : BufTy).Contents (Elt F)),
    unary main_v13 main_v14 (uitofp .f32 : (⟨S16384, .i1⟩ : BufTy).Contents (Elt F) → (⟨S16384, .f32⟩ : BufTy).Contents (Elt F)),
    nullary main_c (constantI S_ 32 0#32),
    unary main_c main_v15 (broadcastInDim S16384 ![] bcast_S_S16384 : (⟨S_, .i32⟩ : BufTy).Contents (Elt F) → (⟨S16384, .i32⟩ : BufTy).Contents (Elt F)),
    binary main_v11 main_v15 main_v16 (cmpi .slt : (⟨S16384, .i32⟩ : BufTy).Contents (Elt F) → (⟨S16384, .i32⟩ : BufTy).Contents (Elt F) → (⟨S16384, .i1⟩ : BufTy).Contents (Elt F)),
    nullary main_c_3 (constantI S_ 32 1000#32),
    unary main_c_3 main_v17 (broadcastInDim S16384 ![] bcast_S_S16384 : (⟨S_, .i32⟩ : BufTy).Contents (Elt F) → (⟨S16384, .i32⟩ : BufTy).Contents (Elt F)),
    binary main_v11 main_v17 main_v18 (addi : (⟨S16384, .i32⟩ : BufTy).Contents (Elt F) → (⟨S16384, .i32⟩ : BufTy).Contents (Elt F) → (⟨S16384, .i32⟩ : BufTy).Contents (Elt F)),
    ternary main_v16 main_v18 main_v11 main_v19 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v19 main_v20 (broadcastInDim S16384x1 ![0] bcast_S16384_S16384x1_0 : (⟨S16384, .i32⟩ : BufTy).Contents (Elt F) → (⟨S16384x1, .i32⟩ : BufTy).Contents (Elt F)),
    ternary main_v12 main_v20 main_v14 main_v21 ((fun x i u => Host.scatterAdd scatter_S1000_S16384x1_S16384_n_0_0_1 x i u) : (⟨S1000, .f32⟩ : BufTy).Contents (Elt F) → (⟨S16384x1, .i32⟩ : BufTy).Contents (Elt F) → (⟨S16384, .f32⟩ : BufTy).Contents (Elt F) → (⟨S1000, .f32⟩ : BufTy).Contents (Elt F)),
    nullary main_cst_4 (constant S_ .f32 0x00000000#32),
    unary main_cst_4 main_v22 (broadcastInDim S1000 ![] bcast_S_S1000 : (⟨S_, .f32⟩ : BufTy).Contents (Elt F) → (⟨S1000, .f32⟩ : BufTy).Contents (Elt F)),
    nullary main_cst_5 (constant S_ .f32 0x3F800000#32),
    unary main_cst_5 main_v23 (broadcastInDim S16384 ![] bcast_S_S16384 : (⟨S_, .f32⟩ : BufTy).Contents (Elt F) → (⟨S16384, .f32⟩ : BufTy).Contents (Elt F)),
    nullary main_c_6 (constantI S_ 32 0#32),
    unary main_c_6 main_v24 (broadcastInDim S16384 ![] bcast_S_S16384 : (⟨S_, .i32⟩ : BufTy).Contents (Elt F) → (⟨S16384, .i32⟩ : BufTy).Contents (Elt F)),
    binary main_v11 main_v24 main_v25 (cmpi .slt : (⟨S16384, .i32⟩ : BufTy).Contents (Elt F) → (⟨S16384, .i32⟩ : BufTy).Contents (Elt F) → (⟨S16384, .i1⟩ : BufTy).Contents (Elt F)),
    nullary main_c_7 (constantI S_ 32 1000#32),
    unary main_c_7 main_v26 (broadcastInDim S16384 ![] bcast_S_S16384 : (⟨S_, .i32⟩ : BufTy).Contents (Elt F) → (⟨S16384, .i32⟩ : BufTy).Contents (Elt F)),
    binary main_v11 main_v26 main_v27 (addi : (⟨S16384, .i32⟩ : BufTy).Contents (Elt F) → (⟨S16384, .i32⟩ : BufTy).Contents (Elt F) → (⟨S16384, .i32⟩ : BufTy).Contents (Elt F)),
    ternary main_v25 main_v27 main_v11 main_v28 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v28 main_v29 (broadcastInDim S16384x1 ![0] bcast_S16384_S16384x1_0 : (⟨S16384, .i32⟩ : BufTy).Contents (Elt F) → (⟨S16384x1, .i32⟩ : BufTy).Contents (Elt F)),
    ternary main_v22 main_v29 main_v23 main_v30 ((fun x i u => Host.scatterAdd scatter_S1000_S16384x1_S16384_n_0_0_1 x i u) : (⟨S1000, .f32⟩ : BufTy).Contents (Elt F) → (⟨S16384x1, .i32⟩ : BufTy).Contents (Elt F) → (⟨S16384, .f32⟩ : BufTy).Contents (Elt F) → (⟨S1000, .f32⟩ : BufTy).Contents (Elt F)),
    nullary main_cst_8 (constant S_ .f32 0x00000000#32),
    unary main_cst_8 main_v31 (broadcastInDim S1000 ![] bcast_S_S1000 : (⟨S_, .f32⟩ : BufTy).Contents (Elt F) → (⟨S1000, .f32⟩ : BufTy).Contents (Elt F)),
    binary main_v30 main_v31 main_v32 (cmpf .ogt : (⟨S1000, .f32⟩ : BufTy).Contents (Elt F) → (⟨S1000, .f32⟩ : BufTy).Contents (Elt F) → (⟨S1000, .i1⟩ : BufTy).Contents (Elt F)),
    nullary main_cst_9 (constant S_ .f32 0x3F800000#32),
    TRef.unary (.of main_cst_9) main_call1.v0 id,
    TRef.unary main_call1.v0 main_call1.v1 (broadcastInDim S1000 ![] bcast_S_S1000),
    TRef.ternary (.of main_v32) (.of main_v30) main_call1.v1 main_call1.v2 select,
    nullary main_cst_10 (constant S_ .f32 0x00000000#32),
    unary main_cst_10 main_v34 (broadcastInDim S1000 ![] bcast_S_S1000 : (⟨S_, .f32⟩ : BufTy).Contents (Elt F) → (⟨S1000, .f32⟩ : BufTy).Contents (Elt F)),
    binary main_v30 main_v34 main_v35 (cmpf .ogt : (⟨S1000, .f32⟩ : BufTy).Contents (Elt F) → (⟨S1000, .f32⟩ : BufTy).Contents (Elt F) → (⟨S1000, .i1⟩ : BufTy).Contents (Elt F)),
    binary main_v21 main_v33 main_v36 (Host.divf : (⟨S1000, .f32⟩ : BufTy).Contents (Elt F) → (⟨S1000, .f32⟩ : BufTy).Contents (Elt F) → (⟨S1000, .f32⟩ : BufTy).Contents (Elt F)),
    nullary main_cst_11 (constant S_ .f32 0x00000000#32),
    TRef.unary (.of main_cst_11) main_call2.v0 id,
    TRef.unary main_call2.v0 main_call2.v1 (broadcastInDim S1000 ![] bcast_S_S1000),
    TRef.ternary (.of main_v35) (.of main_v36) main_call2.v1 main_call2.v2 select,
    nullary main_cst_12 (constant S_ .f32 0x00000000#32),
    binary main_v37 main_cst_12 main_v38 ((fun x v => Host.reduceAdd x v reducesTo_S1000_S_d0 h_S_) : (⟨S1000, .f32⟩ : BufTy).Contents (Elt F) → (⟨S_, .f32⟩ : BufTy).Contents (Elt F) → (⟨S_, .f32⟩ : BufTy).Contents (Elt F)),
    nullary main_cst_13 (constant S_ .f32 0x447A0000#32),
    binary main_v38 main_cst_13 main_v39 (Host.divf : (⟨S_, .f32⟩ : BufTy).Contents (Elt F) → (⟨S_, .f32⟩ : BufTy).Contents (Elt F) → (⟨S_, .f32⟩ : BufTy).Contents (Elt F)) ]

/-- The program is the straight line of its operations. -/
theorem main_eq (c : Dev nD) : main (F := F) c = seq ops := by
  simp only [main, fn_argmax.body, fn_where.body, seq, bind_assoc, pure_bind]

/-- What the operations leave in the returned scalar. -/
theorem out_eq (V : Valuation τ sig (Elt F)) :
    after ops V (main_v39 : DevRef τ sig) = out (V (main_arg0 : DevRef τ sig)) (V (main_arg1 : DevRef τ sig)) := by
  after_results_simp
  rfl

/-- No operation writes the logits. -/
theorem arg0_eq (V : Valuation τ sig (Elt F)) : after ops V (main_arg0 : DevRef τ sig) = V (main_arg0 : DevRef τ sig) := by
  simp only [after_cons, after_nil]
  rfl

/-- No operation writes the labels. -/
theorem arg1_eq (V : Valuation τ sig (Elt F)) : after ops V (main_arg1 : DevRef τ sig) = V (main_arg1 : DevRef τ sig) := by
  simp only [after_cons, after_nil]
  rfl

/-- The program scopes no buffer. -/
theorem scopedRefs_eq : (Finset.univ.filter fun b : Ref sig .tc => b.isScoped) = ∅ := by decide
/-- The program scopes no semaphore. -/
theorem scopedSems_eq : (Finset.univ.filter fun sm : SemLoc sig => sm.isScoped .tc) = ∅ := by decide

/-- Every operation touches the program's own buffers. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., binary_bufs_sub .., nullary_bufs_sub .., unary_bufs_sub .., unary_bufs_sub .., ternary_bufs_sub .., nullary_bufs_sub .., binary_bufs_sub .., nullary_bufs_sub .., binary_bufs_sub ..⟩

/-- The run: every buffer at what the operations leave in it. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The run, read: the returned scalar at the reference's value, both arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
        = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v39).trans (out_eq _), (h c main_arg0).trans (arg0_eq _), (h c main_arg1).trans (arg1_eq _)⟩)
    (run_main m ρ)

end Cert.ReferenceIdeal.Value

end
-- ==== Proof.ArgFold.lean ====
/-
  The arg-max of a list of values with their indices: the largest value, at the smallest index that holds it.
-/
module

public import proofs.«01_k».proof.Proof.RefRun
public import proofs.«01_k».proof.Proof.ArgSpec
public import Idealize.ShloMosaic.PureOps.Ideal.Laws

@[expose] public section

noncomputable section

open Idealize.ShloMosaic

namespace Cert.ReferenceIdeal.Value

open Cert.ReferenceIdeal Cert.ReferenceIdeal.Gen Cert.Precision

/-- A value and its index beat another when the value is larger, or equal at an index no later. -/
def Beats (p q : EReal × BitVec 32) : Prop := q.1 < p.1 ∨ (p.1 = q.1 ∧ p.2.toInt ≤ q.2.toInt)

/-- Every pair beats itself. -/
theorem Beats.refl (p : EReal × BitVec 32) : Beats p p := Or.inr ⟨rfl, le_refl _⟩

/-- Beating carries over. -/
theorem Beats.trans {p q r : EReal × BitVec 32} (h : Beats p q) (g : Beats q r) : Beats p r := by
  rcases h with h | ⟨h, h'⟩ <;> rcases g with g | ⟨g, g'⟩
  · exact Or.inl (g.trans h)
  · exact Or.inl (g ▸ h)
  · exact Or.inl (h ▸ g)
  · exact Or.inr ⟨h.trans g, h'.trans g'⟩

/-- Two pairs that beat each other are equal. -/
theorem Beats.antisymm {p q : EReal × BitVec 32} (h : Beats p q) (g : Beats q p) : p = q := by
  rcases h with h | ⟨h, h'⟩ <;> rcases g with g | ⟨g, g'⟩
  · exact absurd (h.trans g) (lt_irrefl _)
  · exact absurd h (by rw [g]; exact lt_irrefl _)
  · exact absurd g (by rw [h]; exact lt_irrefl _)
  · exact Prod.ext h (BitVec.eq_of_toInt_eq (le_antisymm h' g'))

/-- One step of the arg-max keeps one of its two pairs, and the kept pair beats both. -/
theorem step (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨x, i⟩ := a
  obtain ⟨y, j⟩ := b
  rcases lt_trichotomy x y with h | h | h
  · have e : reducer_argmax_f32_i32 (F := Ideal) (x, i) (y, j) = (y, j) := by
      simp [reducer_argmax_f32_i32, Ideal.cmpf_def, Ideal.cmp, IntOp.ori, IntOp.andi, Scalar.select, h.ne, h.not_gt]
    rw [e]
    exact ⟨Or.inr rfl, Or.inl h, Beats.refl _⟩
  · subst h
    by_cases hij : i.toInt < j.toInt
    · have e : reducer_argmax_f32_i32 (F := Ideal) (x, i) (x, j) = (x, i) := by
        simp [reducer_argmax_f32_i32, Ideal.cmpf_def, Ideal.cmp, IntOp.ori, IntOp.andi, IntOp.cmpi, BitVec.slt, Scalar.select, hij]
      rw [e]
      exact ⟨Or.inl rfl, Beats.refl _, Or.inr ⟨rfl, hij.le⟩⟩
    · have e : reducer_argmax_f32_i32 (F := Ideal) (x, i) (x, j) = (x, j) := by
        simp [reducer_argmax_f32_i32, Ideal.cmpf_def, Ideal.cmp, IntOp.ori, IntOp.andi, IntOp.cmpi, BitVec.slt, Scalar.select, hij]
      rw [e]
      exact ⟨Or.inr rfl, Or.inr ⟨rfl, not_lt.1 hij⟩, Beats.refl _⟩
  · have e : reducer_argmax_f32_i32 (F := Ideal) (x, i) (y, j) = (x, i) := by
      simp [reducer_argmax_f32_i32, Ideal.cmpf_def, Ideal.cmp, IntOp.ori, IntOp.andi, Scalar.select, h, h.ne']
    rw [e]
    exact ⟨Or.inl rfl, Beats.refl _, Or.inl h⟩

/-- The arg-max of a list keeps one of the pairs it met, and the kept pair beats all of them. -/
theorem fold_beats (l : List (EReal × BitVec 32)) (p : EReal × BitVec 32) :
    (l.foldl (reducer_argmax_f32_i32 (F := Ideal)) p = p ∨ l.foldl (reducer_argmax_f32_i32 (F := Ideal)) p ∈ l)
      ∧ Beats (l.foldl (reducer_argmax_f32_i32 (F := Ideal)) p) p
      ∧ ∀ q ∈ l, Beats (l.foldl (reducer_argmax_f32_i32 (F := Ideal)) p) q := by
  induction l generalizing p with
  | nil => exact ⟨Or.inl rfl, Beats.refl _, fun q hq => nomatch hq⟩
  | cons a l ih =>
    obtain ⟨hm, hp, hl⟩ := ih (reducer_argmax_f32_i32 (F := Ideal) p a)
    obtain ⟨hs, h1, h2⟩ := step p a
    refine ⟨?_, hp.trans h1, fun q hq => ?_⟩
    · rcases hm with hm | hm
      · rcases hs with hs | hs
        · exact Or.inl (hm.trans hs)
        · exact Or.inr (List.mem_cons.2 (Or.inl (hm.trans hs)))
      · exact Or.inr (List.mem_cons_of_mem _ hm)
    · rcases List.mem_cons.1 hq with rfl | hq
      · exact hp.trans h2
      · exact hl q hq

/-- A small word read signed is its number. -/
theorem toInt_small {n : Nat} (h : n < 2000) : (BitVec.ofNat 32 n).toInt = n := by
  rw [BitVec.toInt_eq_toNat_cond, BitVec.toNat_ofNat]
  omega

/-- The arg-max, from `-∞` at index 0, of a list that holds a row's values with their columns is the first column at which
    they are largest, when that column is 0 if they are all `-∞`. -/
theorem fold_arg (l : List (EReal × BitVec 32)) (f : Fin 1000 → EReal) (k : Fin 1000) (hk : IsArg f k) (h0 : f k = ⊥ → k = 0)
    (hl : ∀ q, q ∈ l ↔ ∃ j : Fin 1000, q = (f j, BitVec.ofNat 32 j.val)) :
    l.foldl (reducer_argmax_f32_i32 (F := Ideal)) (⊥, 0#32) = (f k, BitVec.ofNat 32 k.val) := by
  obtain ⟨hm, hp, hb⟩ := fold_beats l (⊥, 0#32)
  refine Beats.antisymm (hb _ ((hl _).2 ⟨k, rfl⟩)) ?_
  rcases hm with hm | hm
  · rw [hm]
    rcases eq_or_lt_of_le (bot_le (a := f k)) with h | h
    · refine Or.inr ⟨h.symm, ?_⟩
      rw [h0 h.symm]
      show (BitVec.ofNat 32 0).toInt ≤ (0#32).toInt
      exact le_refl _
    · exact Or.inl h
  · obtain ⟨j, hj⟩ := (hl _).1 hm
    rw [hj]
    rcases eq_or_lt_of_le (hk.1 j) with h | h
    · refine Or.inr ⟨h.symm, ?_⟩
      show (BitVec.ofNat 32 k.val).toInt ≤ (BitVec.ofNat 32 j.val).toInt
      rw [toInt_small (by omega), toInt_small (by omega)]
      exact_mod_cast hk.2 j h
    · exact Or.inl h

end Cert.ReferenceIdeal.Value

end
-- ==== Proof.RefArg.lean ====
/-
  The reference's prediction: its arg-max of the softmax picks the first class at which the row's logit is largest.
-/
module

public import proofs.«01_k».proof.Proof.ArgFold
public import proofs.«01_k».proof.Proof.Generic

@[expose] public section

noncomputable section

open Idealize.ShloMosaic Idealize.ShloMosaic.ValueIdx

namespace Cert.ReferenceIdeal.Value

open Cert.ReferenceIdeal Cert.ReferenceIdeal.Gen Cert.Precision

/-- The arg-max's list over one axis, at any shape: the values over that axis, each with its word. -/
theorem mem_fiber {s t : Shape} {a : Fin s.rank} (h' : s.ReducesTo [a] t) (h : s.Reduces [a] t) (p : s.Idx → EReal)
    (y : s.Idx → BitVec 32) (j : t.Idx) (q : EReal × BitVec 32) :
    q ∈ Host.argReduceFiber p y h' j ↔ ∃ k : Fin (s.size a), q = (p (h.lift j k), y (h.lift j k)) := by
  unfold Host.argReduceFiber
  rw [Shape.ReducesTo.drop_eq_drop h' h, List.mem_map]
  constructor
  · rintro ⟨n, hn, rfl⟩
    have hd : h.drop (s.rowMajor.symm n) = j := of_decide_eq_true (List.mem_filter.1 hn).2
    have e := h.lift_drop (s.rowMajor.symm n)
    rw [hd] at e
    exact ⟨(s.rowMajor.symm n) a, by rw [e]⟩
  · rintro ⟨k, rfl⟩
    refine ⟨s.rowMajor (h.lift j k), List.mem_filter.2 ⟨List.mem_finRange _, ?_⟩, ?_⟩
    · rw [Equiv.symm_apply_apply]
      exact decide_eq_true (h.drop_lift j k)
    · rw [Equiv.symm_apply_apply]

/-- The index the arg-max picks over an axis of a thousand, at any shape. -/
theorem picked_eq {s t u : Shape} {a : Fin s.rank} (h' : s.ReducesTo [a] t) (h : s.Reduces [a] t) (hu : 0 < u.numel)
    (p : FVec Ideal s .f32) (y : IVec s 32) (ix : FVec Ideal u .f32) (iy : IVec u 32)
    (hx : ix (Shape.Idx.first hu) = (⊥ : EReal)) (hy : iy (Shape.Idx.first hu) = 0#32) (j : t.Idx)
    (L : Fin 1000 → s.Idx) (hL : ∀ q : s.Idx, (∃ k : Fin (s.size a), q = h.lift j k) ↔ ∃ k, q = L k)
    (hyL : ∀ k, y (L k) = BitVec.ofNat 32 k.val) (k : Fin 1000)
    (hk : IsArg (fun j => (p (L j) : EReal)) k) (h0 : (p (L k) : EReal) = ⊥ → k = 0) :
    picked p y ix iy h' hu j = BitVec.ofNat 32 k.val := by
  unfold picked
  rw [Ideal.argReduce_eq_reduce2, Host.reduce2_eq_foldl_fiber, hx, hy]
  refine congrArg Prod.snd (fold_arg _ (fun j => p (L j)) k hk h0 fun q => ?_)
  refine (mem_fiber h' h p y j q).trans ?_
  constructor
  · rintro ⟨i, rfl⟩
    obtain ⟨i', e⟩ := (hL _).1 ⟨i, rfl⟩
    exact ⟨i', by rw [e, hyL]⟩
  · rintro ⟨i, rfl⟩
    obtain ⟨i', e⟩ := (hL _).2 ⟨i, rfl⟩
    exact ⟨i', by rw [← e, hyL]⟩

/-- The rows are the columns' reduction. -/
theorem reduces_rows : S16384x1000.Reduces [1] S16384 := by decide

/-- Column `k` put back into row `r`. -/
theorem lift_rows (r : Fin 16384) (k : Fin (S16384x1000.size 1)) : reduces_rows.lift (ix1 r) k = @ix2 16384 1000 r k := by
  funext a
  match a with
  | ⟨0, _⟩ => rfl
  | ⟨1, _⟩ => rfl

/-- The arg-max of a row of values is the first column at which they are largest, when that column is 0 if they are all
    `-∞`. -/
theorem preds_eq (p : FVec Ideal S16384x1000 .f32) (r : Fin 16384) (k : Fin 1000)
    (hk : IsArg (fun j => (p (ix2 r j) : EReal)) k) (h0 : (p (ix2 r k) : EReal) = ⊥ → k = 0) :
    preds p (ix1 r) = BitVec.ofNat 32 k.val := by
  unfold preds
  have hb : (constant (F := Ideal) S_ .f32 0xFF800000#32 (Shape.Idx.first h_S_) : EReal) = ⊥ := ofBits_bot
  have hz : constantI S_ 32 0#32 (Shape.Idx.first h_S_) = 0#32 := rfl
  exact picked_eq reducesTo_S16384x1000_S16384_d1 reduces_rows h_S_ p (iotaInDim S16384x1000 32 1)
    (constant S_ .f32 0xFF800000#32) (constantI S_ 32 0#32) hb hz (ix1 r) (fun j => ix2 r j)
    (fun q => ⟨fun ⟨k, e⟩ => ⟨k, e.trans (lift_rows r k)⟩, fun ⟨k, e⟩ => ⟨k, e.trans (lift_rows r k).symm⟩⟩) (fun _ => rfl) k hk h0

/-- The largest logit of a row. -/
theorem rowMax_eq (x : FVec Ideal S16384x1000 .f32) (r : Fin 16384) (k : Fin 1000) (hk : IsArg (fun j => (x (ix2 r j) : EReal)) k) :
    rowMax x (ix1 r) = x (ix2 r k) := by
  have e := reduce_max x (constant S_ .f32 0xFF800000#32) reducesTo_S16384x1000_S16384_d1 reduces_rows h_S_ ofBits_bot (ix1 r) k
    (fun i => by rw [lift_rows r i, lift_rows r k]; exact hk.1 i)
  rw [lift_rows r k] at e
  unfold rowMax
  rw [maximumf_apply, e]
  refine (congrArg (max · (x (ix2 r k) : EReal)) (show _ = (⊥ : EReal) from ofBits_bot)).trans (max_eq_right bot_le)

/-- A value per row, read at a class. -/
theorem spread_eq (v : FVec Ideal S16384 .f32) (r : Fin 16384) (j : Fin 1000) : spread v (ix2 r j) = v (ix1 r) := by
  unfold spread broadcastInDim
  refine congrArg v (funext fun a => ?_)
  match a with
  | ⟨0, _⟩ => rfl

/-- An exponential of the reference's, at a class. -/
theorem expos_eq (x : FVec Ideal S16384x1000 .f32) (r : Fin 16384) (k j : Fin 1000) (hk : IsArg (fun j => (x (ix2 r j) : EReal)) k) :
    (expos x (ix2 r j) : EReal) = Ideal.exp ((x (ix2 r j) : EReal) - x (ix2 r k)) := by
  rw [← rowMax_eq x r k hk, ← spread_eq (rowMax x) r j]
  rfl

/-- The softmax at a class is the quotient `soft` of its row. -/
theorem probs_eq (x : FVec Ideal S16384x1000 .f32) (r : Fin 16384) (k j : Fin 1000) (hk : IsArg (fun j => (x (ix2 r j) : EReal)) k) :
    probs x (ix2 r j) = soft (fun j => x (ix2 r j)) k j := by
  have e := reduceAdd_sum (expos x) (constant S_ .f32 0x00000000#32) reducesTo_S16384x1000_S16384_d1 reduces_rows h_S_
    Ideal.ofBits_zero_f32 (ix1 r)
  have e' : (∑ i : Fin (S16384x1000.size 1), (expos x (reduces_rows.lift (ix1 r) i) : EReal))
      = ∑ i : Fin 1000, Ideal.exp ((x (ix2 r i) : EReal) - x (ix2 r k)) :=
    Finset.sum_congr rfl fun i _ => by rw [lift_rows r i]; exact expos_eq x r k i hk
  unfold soft
  rw [← e', ← e, ← expos_eq x r k j hk,
    ← spread_eq (Host.reduceAdd (expos x) (constant S_ .f32 0x00000000#32) reducesTo_S16384x1000_S16384_d1 h_S_) r j]
  exact hostDivf_at _ _ _

/-- Logits below `+∞`: each row's prediction is the first class at which its logit is largest. -/
theorem preds_probs (x : FVec Ideal S16384x1000 .f32) (hx : ∀ i, (x i : EReal) ≠ ⊤) (r : Fin 16384) :
    preds (probs x) (ix1 r) = BitVec.ofNat 32 (arg fun j => (x (ix2 r j) : EReal)).val := by
  have hk := isArg_arg fun j => (x (ix2 r j) : EReal)
  have hp : (fun j => (probs x (ix2 r j) : EReal)) = soft (fun j => x (ix2 r j)) (arg fun j => x (ix2 r j)) :=
    funext fun j => probs_eq x r _ j hk
  obtain ⟨hs, hb⟩ := soft_arg hk fun j => hx _
  refine preds_eq _ r _ (by rw [hp]; exact hs) fun h => hb ?_
  rw [← probs_eq x r _ _ hk]; exact h

end Cert.ReferenceIdeal.Value

end
-- ==== Proof.RefHist.lean ====
/-
  The reference's two counts and its mean, when every row's prediction is a class: sums over the rows and the classes.
-/
module

public import proofs.«01_k».proof.Proof.RefArg
public import proofs.«01_k».proof.Proof.Spec
public import Idealize.ShloMosaic.Lib.IdealHost

@[expose] public section

noncomputable section

open Idealize.ShloMosaic Idealize.ShloMosaic.ValueIdx

namespace Cert.Precision

/-- An equality of words as a float, from a one-bit word. -/
theorem bit_float (a b : BitVec 32) :
    (FloatOps.uitofp (F := Ideal) .f32 (IntOp.cmpi .eq a b) : EReal) = if a = b then 1 else 0 := by
  by_cases h : a = b
  · subst h
    rw [if_pos rfl]
    have e : IntOp.cmpi .eq a a = 1#1 := by simp [IntOp.cmpi]
    rw [e]
    show (((1#1 : BitVec 1).toNat : ℝ) : EReal) = 1
    simp
  · rw [if_neg h]
    have e : IntOp.cmpi .eq a b = 0#1 := by
      have hb : (a == b) = false := beq_eq_false_iff_ne.2 h
      simp [IntOp.cmpi, hb]
    rw [e]
    show (((0#1 : BitVec 1).toNat : ℝ) : EReal) = 0
    simp

end Cert.Precision

namespace Cert.ReferenceIdeal.Value

open Cert.ReferenceIdeal Cert.ReferenceIdeal.Gen Cert.Precision

/-- The index a row adds at is its prediction: it is never negative. -/
theorem spots_eq (q : IVec S16384 32) (r : Fin 16384) (k : Fin 1000) (h : q (ix1 r) = BitVec.ofNat 32 k.val) :
    spots q (ix2 r (0 : Fin 1)) = BitVec.ofNat 32 k.val := by
  have e : spots q (ix2 r (0 : Fin 1))
      = select (cmpi .slt q (broadcastInDim S16384 ![] bcast_S_S16384 (constantI S_ 32 0#32)))
          (addi q (broadcastInDim S16384 ![] bcast_S_S16384 (constantI S_ 32 1000#32))) q (ix1 r) := by
    unfold spots broadcastInDim
    refine congrArg _ (funext fun a => ?_)
    match a with
    | ⟨0, _⟩ => rfl
  rw [e, select_apply]
  have hc : cmpi .slt q (broadcastInDim S16384 ![] bcast_S_S16384 (constantI S_ 32 0#32)) (ix1 r) = 0#1 := by
    show IntOp.cmpi .slt (q (ix1 r)) 0#32 = 0#1
    rw [h]
    have := toInt_small (n := k.val) (by omega)
    have hs : (BitVec.ofNat 32 k.val).slt 0#32 = false := by
      unfold BitVec.slt
      rw [this]
      exact decide_eq_false (by simp)
    simp [IntOp.cmpi, hs]
  rw [hc, h]
  rfl

/-- The word of class `k` read signed is `c` exactly when `k` is `c`. -/
theorem word_class (k c : Fin 1000) : (BitVec.ofNat 32 k.val).toInt = (c.val : Int) ↔ k.val = c.val := by
  rw [toInt_small (by omega)]
  exact Int.ofNat_inj

/-- The zeros at a class. -/
theorem zeros_eq (c : Fin 1000) : (zeros (F := Ideal) (ix1 c) : EReal) = 0 := Ideal.ofBits_zero_f32

/-- The marks at a class: how many rows pick it. -/
theorem marks_eq (q : IVec S16384 32) (k : Fin 16384 → Fin 1000) (h : ∀ r, q (ix1 r) = BitVec.ofNat 32 (k r).val) (c : Fin 1000) :
    (marks (F := Ideal) q (ix1 c) : EReal) = markCount k c.val := by
  unfold marks
  rw [scatterAdd_sum _ rfl rfl rfl _ _ _ _ (zeros_eq c)]
  unfold markCount
  refine Finset.sum_congr rfl fun r _ => ?_
  rw [spots_eq q r _ (h r)]
  refine if_congr (word_class _ _) ?_ rfl
  exact Ideal.ofBits_one_f32

/-- The hits at a class: how many rows pick it and are labelled by it. -/
theorem hits_eq (q l : IVec S16384 32) (k : Fin 16384 → Fin 1000) (h : ∀ r, q (ix1 r) = BitVec.ofNat 32 (k r).val) (c : Fin 1000) :
    (hits (F := Ideal) q l (ix1 c) : EReal) = hitCount k (fun r => l (ix1 r)) c.val := by
  unfold hits
  rw [scatterAdd_sum _ rfl rfl rfl _ _ _ _ (zeros_eq c)]
  unfold hitCount
  refine Finset.sum_congr rfl fun r _ => ?_
  rw [spots_eq q r _ (h r)]
  refine if_congr (word_class _ _) ?_ rfl
  rw [← h r]
  exact bit_float _ _

/-- The mean, as the quotient of a sum over the classes. -/
theorem mean_eq (t p : FVec Ideal S1000 .f32) (j : S_.Idx) :
    (mean t p j : EReal)
      = Ideal.div (∑ c : Fin 1000, frac (t (ix1 c)) (p (ix1 c))) (Ideal.ofBits .f32 0x447A0000#32) := by
  unfold mean
  rw [hostDivf_at, reduceAdd_vec _ _ reducesTo_S1000_S_d0 (fun b => b.elim0) h_S_ Ideal.ofBits_zero_f32 j]
  refine congrArg (Ideal.div · _) (Finset.sum_congr rfl fun c _ => ?_)
  exact select_frac _ _

/-- The reference's value, logits below `+∞`: the mean precision of the rows' first largest classes. -/
theorem out_value (x : FVec Ideal S16384x1000 .f32) (l : IVec S16384 32) (hx : ∀ i, (x i : EReal) ≠ ⊤) (j : S_.Idx) :
    (out x l j : EReal) = meanPrecision (fun r => arg fun i => (x (ix2 r i) : EReal)) (fun r => l (ix1 r)) := by
  have hs : ∑ c : Fin 1000, frac (hits (F := Ideal) (preds (probs x)) l (ix1 c)) (marks (F := Ideal) (preds (probs x)) (ix1 c))
      = ∑ c : Fin 1000, frac (hitCount (fun r => arg fun i => (x (ix2 r i) : EReal)) (fun r => l (ix1 r)) c.val)
          (markCount (fun r => arg fun i => (x (ix2 r i) : EReal)) c.val) :=
    Finset.sum_congr rfl fun c _ => by
      rw [hits_eq (preds (probs x)) l (fun r => arg fun i => (x (ix2 r i) : EReal)) (preds_probs x hx) c,
        marks_eq (preds (probs x)) (fun r => arg fun i => (x (ix2 r i) : EReal)) (preds_probs x hx) c]
  unfold out meanPrecision
  rw [mean_eq, hs]

end Cert.ReferenceIdeal.Value

end
-- ==== Proof.Pre.lean ====
/-
  What the precondition says: no logit is plus infinity.
-/
module

public import proofs.«01_k».proof.Proof.Gen.Pre_no_plus_infinity
public import Idealize.ShloMosaic.Lib.ReduceAll
public import Idealize.ShloMosaic.Lib.ValueIdx
public import proofs.«01_k».proof.Proof.Generic

@[expose] public section

noncomputable section

open Idealize.ShloMosaic

namespace Cert.Pre_no_plus_infinity

open Cert.Pre_no_plus_infinity.Gen

/-- The word the precondition compares with is plus infinity. -/
theorem ofBits_top : Ideal.ofBits .f32 0x7F800000#32 = (⊤ : EReal) := by simp [Ideal.ofBits, Ideal.ieee]

/-- An extended real below plus infinity by the comparison is not plus infinity. -/
theorem ne_top_of_lt (x : EReal) (h : FloatOps.cmpf (F := Ideal) (φ := .f32) .olt x (Ideal.ofBits .f32 0x7F800000#32) = 1#1) :
    x ≠ ⊤ := by
  rintro rfl
  rw [Ideal.cmpf_def, ofBits_top] at h
  simp [Ideal.cmp] at h

/-- Where the precondition holds, no logit is plus infinity. -/
theorem ne_top (x : FVec Ideal S16384x1000 .f32) (l : IVec S16384 32)
    (h : fn (F := Ideal) x l = fun _ => 1#1) (i : S16384x1000.Idx) : (x i : EReal) ≠ ⊤ := by
  have hj := congrFun h (fun a => a.elim0)
  haveI : Subsingleton S_.Idx := ⟨fun a b => funext fun k => k.elim0⟩
  have hi := Host.reduce_andi_all _ _ _ _ _ hj i
  exact ne_top_of_lt _ hi

end Cert.Pre_no_plus_infinity

end
-- ==== Proof.lean ====
/-
  The certificate: the frames of the kernel at both instances and of the reference, and the equality of the kernel's and
  the reference's results over the extended reals where no logit is plus infinity.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_no_plus_infinity
public import proofs.«01_k».proof.Proof.KernelSum
public import proofs.«01_k».proof.Proof.RefHist
public import proofs.«01_k».proof.Proof.Pre
public import Idealize.ShloMosaic.Lib.Quiescent

@[expose] public section

noncomputable section

namespace Cert.Proof

open Idealize.ShloMosaic Idealize.SL.Sem Idealize.ShloMosaic.ValueIdx

/-- The reference runs, leaves its arguments unchanged and every counter at zero: it has no semaphores. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Where no logit is plus infinity, the kernel's scalar is the reference's: both are the mean precision of the rows'
    first largest classes. -/
theorem algebraic : Cert.algebraic_KernelIdeal_ReferenceIdeal_pre_no_plus_infinity := by
  intro m ρ m' ρ' hpre hagree
  refine ⟨fun c => Cert.KernelIdeal.Value.out m c, Cert.KernelIdeal.Value.run (F := Ideal) m ρ, ?_⟩
  refine (θ_run Cert.ReferenceIdeal.defs _ _).mono (fun r h c => ⟨(h c).1.trans ?_, (h c).2⟩)
    (Cert.ReferenceIdeal.Value.run (F := Ideal) m' ρ')
  rw [(hagree c).1, (hagree c).2]
  funext j
  exact (Cert.ReferenceIdeal.Value.out_value (Cert.KernelIdeal.Value.logits m c) (Cert.KernelIdeal.Value.labels m c)
    (Cert.Pre_no_plus_infinity.ne_top _ _ (hpre c)) j).trans (Cert.KernelIdeal.Value.out_value m c j).symm

/-- Every claim of the certificate. -/
theorem claim : Cert.Claim :=
  ⟨Cert.Kernel.Gen.facts, Cert.KernelIdeal.Gen.facts, Cert.ReferenceIdeal.Gen.facts, Cert.Pre_no_plus_infinity.Gen.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ, trivial, algebraic⟩

end Cert.Proof

end
